-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1000000 : Shape := ⟨2, ![64, 1000000]⟩
abbrev S64x1 : Shape := ⟨2, ![64, 1]⟩
abbrev S16x100352 : Shape := ⟨2, ![16, 100352]⟩
abbrev S16x1 : Shape := ⟨2, ![16, 1]⟩
abbrev S16x256 : Shape := ⟨2, ![16, 256]⟩
abbrev S16 : Shape := ⟨1, ![16]⟩
abbrev S64 : Shape := ⟨1, ![64]⟩

abbrev nBuf : Space → Nat
  | .hbm => 3
  | .vmem => 6
  | .smem => 0
  | _ => 0

abbrev bufTy : (tb : Table) → Fin (tcTables nBuf tb) → BufTy
  | .hbm, ⟨0, _⟩ => ⟨S64x1000000, .f32⟩
  | .hbm, ⟨1, _⟩ => ⟨S64x1, .i32⟩
  | .hbm, ⟨2, _⟩ => ⟨S64, .i32⟩
  | .local _ .vmem, ⟨0, _⟩ => ⟨S16x100352, .f32⟩
  | .local _ .vmem, ⟨1, _⟩ => ⟨S16x100352, .f32⟩
  | .local _ .vmem, ⟨2, _⟩ => ⟨S16x1, .i32⟩
  | .local _ .vmem, ⟨3, _⟩ => ⟨S16x1, .i32⟩
  | .local _ .vmem, ⟨4, _⟩ => ⟨S16x256, .f32⟩
  | .local _ .vmem, ⟨5, _⟩ => ⟨S16x256, .i32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 10], ![false, false]⟩

@[reducible] def k0_t1_loop : Scf.Loop 32 :=
  let c0_i32_2 : BitVec 32 := 0#32
  let c343_i32 : BitVec 32 := 343#32
  let v17 : BitVec 32 := Scalar.addi c0_i32_2 c343_i32
  let c1_i32 : BitVec 32 := 1#32
  ⟨c0_i32_2, v17, c1_i32⟩
def k0_off1 (k0_t1 : Fin k0_t1_loop.trips) : Fin 2 → Nat :=
  let c0_3138 : Index := 0#32
  let c0_i32_2 : BitVec 32 := 0#32
  let c1_i32 : BitVec 32 := 1#32
  let arg6 : BitVec 32 := Scf.iv c0_i32_2 c1_i32 k0_t1
  let c256_i32_3137 : BitVec 32 := 256#32
  let v9805 : BitVec 32 := Scalar.muli arg6 c256_i32_3137
  let v9806 : Index := Scalar.indexCast v9805
  ![0, v9806.toNat]
def k0_off2 (c343_i32_4 : BitVec 32) : Fin 2 → Nat :=
  let c0 : Index := 0#32
  let c256_i32_46 : BitVec 32 := 256#32
  let v193 : BitVec 32 := Scalar.muli c343_i32_4 c256_i32_46
  let v194 : Index := Scalar.indexCast v193
  ![0, v194.toNat]
def k0_cond3 (i : grid0.Coords) : BitVec 1 :=
  let arg1 : BitVec 32 := BitVec.ofNat 32 (i 1).val
  let c9_i32 : BitVec 32 := 9#32
  let v0 : BitVec 1 := Scalar.cmpi .eq arg1 c9_i32
  let v9629 : BitVec 32 := Scalar.extui v0
  let c0_i32_3079 : BitVec 32 := 0#32
  let v9630 : BitVec 1 := Scalar.cmpi .ne v9629 c0_i32_3079
  v9630

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x100352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== ReferenceIdeal.lean ====
abbrev S64x1000000 : Shape := ⟨2, ![64, 1000000]⟩
abbrev S_ : Shape := ⟨0, ![]⟩
abbrev S1 : Shape := ⟨1, ![1]⟩
abbrev S2 : Shape := ⟨1, ![2]⟩
abbrev S1x1 : Shape := ⟨2, ![1, 1]⟩
abbrev S64 : Shape := ⟨1, ![64]⟩

abbrev nBuf : Space → Nat
  | .hbm => 288
  | .vmem => 0
  | .smem => 0
  | _ => 0

abbrev hbmTy0_0 (i : Nat) : BufTy := match i % 128 with
  | 0 => ⟨S64x1000000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S64x1000000, .i64⟩
  | 22 => ⟨S64x1000000, .i64⟩
  | 23 => ⟨S_, .i64⟩
  | 24 => ⟨S64x1000000, .i64⟩
  | 25 => ⟨S64x1000000, .i64⟩
  | 26 => ⟨S_, .i64⟩
  | 27 => ⟨S64x1000000, .i64⟩
  | 28 => ⟨S64x1000000, .i64⟩
  | 29 => ⟨S64x1000000, .i64⟩
  | 30 => ⟨S_, .i64⟩
  | 31 => ⟨S64x1000000, .i64⟩
  | 32 => ⟨S64x1000000, .i64⟩
  | 33 => ⟨S64x1000000, .i32⟩
  | 34 => ⟨S64x1000000, .i32⟩
  | 35 => ⟨S_, .i32⟩
  | 36 => ⟨S_, .i32⟩
  | 37 => ⟨S_, .i32⟩
  | 38 => ⟨S64x1000000, .i32⟩
  | 39 => ⟨S64x1000000, .i32⟩
  | 40 => ⟨S64x1000000, .i32⟩
  | 41 => ⟨S64x1000000, .i32⟩
  | 42 => ⟨S64x1000000, .i32⟩
  | 43 => ⟨S_, .i32⟩
  | 44 => ⟨S64x1000000, .i32⟩
  | 45 => ⟨S64x1000000, .i32⟩
  | 46 => ⟨S_, .i32⟩
  | 47 => ⟨S64x1000000, .i32⟩
  | 48 => ⟨S64x1000000, .i32⟩
  | 49 => ⟨S64x1000000, .i32⟩
  | 50 => ⟨S64x1000000, .i32⟩
  | 51 => ⟨S64x1000000, .i32⟩
  | 52 => ⟨S_, .i32⟩
  | 53 => ⟨S64x1000000, .i32⟩
  | 54 => ⟨S64x1000000, .i32⟩
  | 55 => ⟨S_, .i32⟩
  | 56 => ⟨S64x1000000, .i32⟩
  | 57 => ⟨S64x1000000, .i32⟩
  | 58 => ⟨S64x1000000, .i32⟩
  | 59 => ⟨S64x1000000, .i32⟩
  | 60 => ⟨S64x1000000, .i32⟩
  | 61 => ⟨S_, .i32⟩
  | 62 => ⟨S64x1000000, .i32⟩
  | 63 => ⟨S64x1000000, .i32⟩
  | 64 => ⟨S_, .i32⟩
  | 65 => ⟨S64x1000000, .i32⟩
  | 66 => ⟨S64x1000000, .i32⟩
  | 67 => ⟨S64x1000000, .i32⟩
  | 68 => ⟨S64x1000000, .i32⟩
  | 69 => ⟨S64x1000000, .i32⟩
  | 70 => ⟨S_, .i32⟩
  | 71 => ⟨S64x1000000, .i32⟩
  | 72 => ⟨S64x1000000, .i32⟩
  | 73 => ⟨S_, .i32⟩
  | 74 => ⟨S64x1000000, .i32⟩
  | 75 => ⟨S64x1000000, .i32⟩
  | 76 => ⟨S64x1000000, .i32⟩
  | 77 => ⟨S64x1000000, .i32⟩
  | 78 => ⟨S64x1000000, .i32⟩
  | 79 => ⟨S64x1000000, .i32⟩
  | 80 => ⟨S64x1000000, .i32⟩
  | 81 => ⟨S64x1000000, .i32⟩
  | 82 => ⟨S_, .i32⟩
  | 83 => ⟨S64x1000000, .i32⟩
  | 84 => ⟨S64x1000000, .i32⟩
  | 85 => ⟨S64x1000000, .i32⟩
  | 86 => ⟨S_, .i32⟩
  | 87 => ⟨S64x1000000, .i32⟩
  | 88 => ⟨S64x1000000, .i32⟩
  | 89 => ⟨S_, .i32⟩
  | 90 => ⟨S64x1000000, .i32⟩
  | 91 => ⟨S64x1000000, .i32⟩
  | 92 => ⟨S64x1000000, .i32⟩
  | 93 => ⟨S64x1000000, .i32⟩
  | 94 => ⟨S64x1000000, .i32⟩
  | 95 => ⟨S_, .i32⟩
  | 96 => ⟨S64x1000000, .i32⟩
  | 97 => ⟨S64x1000000, .i32⟩
  | 98 => ⟨S_, .i32⟩
  | 99 => ⟨S64x1000000, .i32⟩
  | 100 => ⟨S64x1000000, .i32⟩
  | 101 => ⟨S64x1000000, .i32⟩
  | 102 => ⟨S64x1000000, .i32⟩
  | 103 => ⟨S64x1000000, .i32⟩
  | 104 => ⟨S_, .i32⟩
  | 105 => ⟨S64x1000000, .i32⟩
  | 106 => ⟨S64x1000000, .i32⟩
  | 107 => ⟨S_, .i32⟩
  | 108 => ⟨S64x1000000, .i32⟩
  | 109 => ⟨S64x1000000, .i32⟩
  | 110 => ⟨S64x1000000, .i32⟩
  | 111 => ⟨S64x1000000, .i32⟩
  | 112 => ⟨S64x1000000, .i32⟩
  | 113 => ⟨S_, .i32⟩
  | 114 => ⟨S64x1000000, .i32⟩
  | 115 => ⟨S64x1000000, .i32⟩
  | 116 => ⟨S_, .i32⟩
  | 117 => ⟨S64x1000000, .i32⟩
  | 118 => ⟨S64x1000000, .i32⟩
  | 119 => ⟨S64x1000000, .i32⟩
  | 120 => ⟨S64x1000000, .i32⟩
  | 121 => ⟨S64x1000000, .i32⟩
  | 122 => ⟨S64x1000000, .i32⟩
  | 123 => ⟨S64x1000000, .i32⟩
  | 124 => ⟨S64x1000000, .i32⟩
  | 125 => ⟨S_, .i32⟩
  | 126 => ⟨S64x1000000, .i32⟩
  | 127 => ⟨S64x1000000, .i32⟩
  | _ => ⟨S64x1000000, .f32⟩

abbrev hbmTy0_1 (i : Nat) : BufTy := match i % 128 with
  | 0 => ⟨S64x1000000, .i32⟩
  | 1 => ⟨S_, .i32⟩
  | 2 => ⟨S64x1000000, .i32⟩
  | 3 => ⟨S64x1000000, .i32⟩
  | 4 => ⟨S_, .i32⟩
  | 5 => ⟨S64x1000000, .i32⟩
  | 6 => ⟨S64x1000000, .i32⟩
  | 7 => ⟨S64x1000000, .i32⟩
  | 8 => ⟨S64x1000000, .i32⟩
  | 9 => ⟨S64x1000000, .i32⟩
  | 10 => ⟨S_, .i32⟩
  | 11 => ⟨S64x1000000, .i32⟩
  | 12 => ⟨S64x1000000, .i32⟩
  | 13 => ⟨S_, .i32⟩
  | 14 => ⟨S64x1000000, .i32⟩
  | 15 => ⟨S64x1000000, .i32⟩
  | 16 => ⟨S64x1000000, .i32⟩
  | 17 => ⟨S64x1000000, .i32⟩
  | 18 => ⟨S64x1000000, .i32⟩
  | 19 => ⟨S_, .i32⟩
  | 20 => ⟨S64x1000000, .i32⟩
  | 21 => ⟨S64x1000000, .i32⟩
  | 22 => ⟨S_, .i32⟩
  | 23 => ⟨S64x1000000, .i32⟩
  | 24 => ⟨S64x1000000, .i32⟩
  | 25 => ⟨S64x1000000, .i32⟩
  | 26 => ⟨S64x1000000, .i32⟩
  | 27 => ⟨S64x1000000, .i32⟩
  | 28 => ⟨S_, .i32⟩
  | 29 => ⟨S64x1000000, .i32⟩
  | 30 => ⟨S64x1000000, .i32⟩
  | 31 => ⟨S_, .i32⟩
  | 32 => ⟨S64x1000000, .i32⟩
  | 33 => ⟨S64x1000000, .i32⟩
  | 34 => ⟨S64x1000000, .i32⟩
  | 35 => ⟨S64x1000000, .i32⟩
  | 36 => ⟨S64x1000000, .i32⟩
  | 37 => ⟨S64x1000000, .i32⟩
  | 38 => ⟨S64x1000000, .i32⟩
  | 39 => ⟨S64x1000000, .i32⟩
  | 40 => ⟨S_, .i32⟩
  | 41 => ⟨S64x1000000, .i32⟩
  | 42 => ⟨S64x1000000, .i32⟩
  | 43 => ⟨S64x1000000, .i32⟩
  | 44 => ⟨S_, .i32⟩
  | 45 => ⟨S64x1000000, .i32⟩
  | 46 => ⟨S64x1000000, .i32⟩
  | 47 => ⟨S_, .i32⟩
  | 48 => ⟨S64x1000000, .i32⟩
  | 49 => ⟨S64x1000000, .i32⟩
  | 50 => ⟨S64x1000000, .i32⟩
  | 51 => ⟨S64x1000000, .i32⟩
  | 52 => ⟨S64x1000000, .i32⟩
  | 53 => ⟨S_, .i32⟩
  | 54 => ⟨S64x1000000, .i32⟩
  | 55 => ⟨S64x1000000, .i32⟩
  | 56 => ⟨S_, .i32⟩
  | 57 => ⟨S64x1000000, .i32⟩
  | 58 => ⟨S64x1000000, .i32⟩
  | 59 => ⟨S64x1000000, .i32⟩
  | 60 => ⟨S64x1000000, .i32⟩
  | 61 => ⟨S64x1000000, .i32⟩
  | 62 => ⟨S_, .i32⟩
  | 63 => ⟨S64x1000000, .i32⟩
  | 64 => ⟨S64x1000000, .i32⟩
  | 65 => ⟨S_, .i32⟩
  | 66 => ⟨S64x1000000, .i32⟩
  | 67 => ⟨S64x1000000, .i32⟩
  | 68 => ⟨S64x1000000, .i32⟩
  | 69 => ⟨S64x1000000, .i32⟩
  | 70 => ⟨S64x1000000, .i32⟩
  | 71 => ⟨S_, .i32⟩
  | 72 => ⟨S64x1000000, .i32⟩
  | 73 => ⟨S64x1000000, .i32⟩
  | 74 => ⟨S_, .i32⟩
  | 75 => ⟨S64x1000000, .i32⟩
  | 76 => ⟨S64x1000000, .i32⟩
  | 77 => ⟨S64x1000000, .i32⟩
  | 78 => ⟨S64x1000000, .i32⟩
  | 79 => ⟨S64x1000000, .i32⟩
  | 80 => ⟨S64x1000000, .i32⟩
  | 81 => ⟨S64x1000000, .i32⟩
  | 82 => ⟨S64x1000000, .i32⟩
  | 83 => ⟨S_, .i32⟩
  | 84 => ⟨S64x1000000, .i32⟩
  | 85 => ⟨S64x1000000, .i32⟩
  | 86 => ⟨S64x1000000, .i32⟩
  | 87 => ⟨S_, .i32⟩
  | 88 => ⟨S64x1000000, .i32⟩
  | 89 => ⟨S64x1000000, .i32⟩
  | 90 => ⟨S_, .i32⟩
  | 91 => ⟨S64x1000000, .i32⟩
  | 92 => ⟨S64x1000000, .i32⟩
  | 93 => ⟨S64x1000000, .i32⟩
  | 94 => ⟨S64x1000000, .i32⟩
  | 95 => ⟨S64x1000000, .i32⟩
  | 96 => ⟨S_, .i32⟩
  | 97 => ⟨S64x1000000, .i32⟩
  | 98 => ⟨S64x1000000, .i32⟩
  | 99 => ⟨S_, .i32⟩
  | 100 => ⟨S64x1000000, .i32⟩
  | 101 => ⟨S64x1000000, .i32⟩
  | 102 => ⟨S64x1000000, .i32⟩
  | 103 => ⟨S64x1000000, .i32⟩
  | 104 => ⟨S64x1000000, .i32⟩
  | 105 => ⟨S_, .i32⟩
  | 106 => ⟨S64x1000000, .i32⟩
  | 107 => ⟨S64x1000000, .i32⟩
  | 108 => ⟨S_, .i32⟩
  | 109 => ⟨S64x1000000, .i32⟩
  | 110 => ⟨S64x1000000, .i32⟩
  | 111 => ⟨S64x1000000, .i32⟩
  | 112 => ⟨S64x1000000, .i32⟩
  | 113 => ⟨S64x1000000, .i32⟩
  | 114 => ⟨S_, .i32⟩
  | 115 => ⟨S64x1000000, .i32⟩
  | 116 => ⟨S64x1000000, .i32⟩
  | 117 => ⟨S_, .i32⟩
  | 118 => ⟨S64x1000000, .i32⟩
  | 119 => ⟨S64x1000000, .i32⟩
  | 120 => ⟨S64x1000000, .i32⟩
  | 121 => ⟨S64x1000000, .i32⟩
  | 122 => ⟨S64x1000000, .i32⟩
  | 123 => ⟨S64x1000000, .i32⟩
  | 124 => ⟨S64x1000000, .i32⟩
  | 125 => ⟨S64x1000000, .i32⟩
  | 126 => ⟨S_, .i32⟩
  | 127 => ⟨S64x1000000, .i32⟩
  | _ => ⟨S64x1000000, .f32⟩

abbrev hbmTy0_2 (i : Nat) : BufTy := match i % 128 with
  | 0 => ⟨S64x1000000, .i32⟩
  | 1 => ⟨S64x1000000, .i32⟩
  | 2 => ⟨S_, .i32⟩
  | 3 => ⟨S64x1000000, .i32⟩
  | 4 => ⟨S64x1000000, .i32⟩
  | 5 => ⟨S_, .i32⟩
  | 6 => ⟨S64x1000000, .i32⟩
  | 7 => ⟨S64x1000000, .i32⟩
  | 8 => ⟨S64x1000000, .f32⟩
  | 9 => ⟨S_, .f32⟩
  | 10 => ⟨S64x1000000, .f32⟩
  | 11 => ⟨S64x1000000, .f32⟩
  | 12 => ⟨S1x1, .f32⟩
  | 13 => ⟨S64x1000000, .f32⟩
  | 14 => ⟨S64x1000000, .f32⟩
  | 15 => ⟨S64x1000000, .f32⟩
  | 16 => ⟨S64x1000000, .f32⟩
  | 17 => ⟨S64x1000000, .f32⟩
  | 18 => ⟨S64x1000000, .f32⟩
  | 19 => ⟨S_, .f32⟩
  | 20 => ⟨S64x1000000, .f32⟩
  | 21 => ⟨S64x1000000, .f32⟩
  | 22 => ⟨S64x1000000, .f32⟩
  | 23 => ⟨S64x1000000, .f32⟩
  | 24 => ⟨S64x1000000, .f32⟩
  | 25 => ⟨S64x1000000, .f32⟩
  | 26 => ⟨S64x1000000, .f32⟩
  | 27 => ⟨S64x1000000, .i32⟩
  | 28 => ⟨S_, .f32⟩
  | 29 => ⟨S_, .i32⟩
  | 30 => ⟨S64, .f32⟩
  | 31 => ⟨S64, .i32⟩
  | _ => ⟨S64x1000000, .f32⟩

abbrev hbmTy (i : Nat) : BufTy := match i / 128 with
  | 0 => hbmTy0_0 i
  | 1 => hbmTy0_1 i
  | 2 => hbmTy0_2 i
  | _ => ⟨S64x1000000, .f32⟩

abbrev bufTy : (tb : Table) → Fin (tcTables nBuf tb) → BufTy
  | .hbm, ⟨i, _⟩ => hbmTy i
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_cst_3 : Ref sig .tc := ⟨.hbm, 275, rfl⟩
abbrev main_v8 : Ref sig .tc := ⟨.hbm, 276, rfl⟩
abbrev main_v9 : Ref sig .tc := ⟨.hbm, 277, rfl⟩
abbrev main_v10 : Ref sig .tc := ⟨.hbm, 278, rfl⟩
abbrev main_v11 : Ref sig .tc := ⟨.hbm, 279, rfl⟩
abbrev main_v12 : Ref sig .tc := ⟨.hbm, 280, rfl⟩
abbrev main_v13 : Ref sig .tc := ⟨.hbm, 281, rfl⟩
abbrev main_v14 : Ref sig .tc := ⟨.hbm, 282, rfl⟩
abbrev main_call1_v0 : Ref sig .tc := ⟨.hbm, 283, rfl⟩
abbrev main_call1_cst : Ref sig .tc := ⟨.hbm, 284, rfl⟩
abbrev main_call1_c : Ref sig .tc := ⟨.hbm, 285, rfl⟩
abbrev main_call1_v1_0 : Ref sig .tc := ⟨.hbm, 286, rfl⟩
abbrev main_v15 : Ref sig .tc := ⟨.hbm, 287, rfl⟩

abbrev nD : Nat := 1
abbrev τ : Topo := Topo.v7x

variable {F : FTy → Type} [FloatOps F]
-- ==== Proof.Body.lean ====
/- The kernel's body written once more with its repeated parts as functions: a chunk step is one function of the
   chunk's number, the loaded slice and the carried pair, the counted loop runs it 343 times, and the 49 masked steps
   are one recursion. `body_eq` says that the printed body is this program. -/
module

public import proofs.«01_k».proof.Proof.Gen.KernelIdeal
public import Idealize.ShloMosaic.Lib.Tactic

@[expose] public section

set_option maxRecDepth 16384

noncomputable section

namespace Cert.KernelProof

open Cert.KernelIdeal Cert.KernelIdeal.Facts₀
open Idealize.ShloMosaic Idealize.ShloMosaic.TcCoe
open Idealize.SL.Sem

variable {F : FTy → Type} [FloatOps F] [Cert.KernelIdeal.Facts]

/-- One round of the generator on the words of a slice: the second word rotated by `r` (`s = 32 - r`) and crossed with
    the first. -/
def rnd (r s : BitVec 32) (a b : IVec S16x256 32) : IVec S16x256 32 :=
  xori (ori (shli b (broadcast S16x256 r)) (shrui b (broadcast S16x256 s))) a

/-- The generator's word for every counter in the slice `x` (which already holds the key's first word). -/
def bitsOf (x : IVec S16x256 32) : IVec S16x256 32 :=
  let b1 := rnd 13#32 19#32 x x
  let a1 := addi x b1
  let b2 := rnd 15#32 17#32 a1 b1
  let a2 := addi a1 b2
  let b3 := rnd 26#32 6#32 a2 b2
  let a3 := addi a2 b3
  let b4 := rnd 6#32 26#32 a3 b3
  let c4 := addi a3 (broadcast S16x256 42#32)
  let d4 := addi b4 (broadcast S16x256 (Scalar.addi 466689008#32 1#32))
  let a4 := addi c4 d4
  let b5 := rnd 17#32 15#32 a4 d4
  let a5 := addi a4 b5
  let b6 := rnd 29#32 3#32 a5 b5
  let a6 := addi a5 b6
  let b7 := rnd 16#32 16#32 a6 b6
  let a7 := addi a6 b7
  let b8 := rnd 24#32 8#32 a7 b7
  let c8 := addi a7 (broadcast S16x256 466689008#32)
  let d8 := addi b8 (broadcast S16x256 2#32)
  let a8 := addi c8 d8
  let b9 := rnd 13#32 19#32 a8 d8
  let a9 := addi a8 b9
  let b10 := rnd 15#32 17#32 a9 b9
  let a10 := addi a9 b10
  let b11 := rnd 26#32 6#32 a10 b10
  let a11 := addi a10 b11
  let b12 := rnd 6#32 26#32 a11 b11
  let d12 := addi b12 (broadcast S16x256 (Scalar.addi 42#32 3#32))
  let a12 := addi a11 d12
  let b13 := rnd 17#32 15#32 a12 d12
  let a13 := addi a12 b13
  let b14 := rnd 29#32 3#32 a13 b13
  let a14 := addi a13 b14
  let b15 := rnd 16#32 16#32 a14 b14
  let a15 := addi a14 b15
  let b16 := rnd 24#32 8#32 a15 b15
  let c16 := addi a15 (broadcast S16x256 42#32)
  let d16 := addi b16 (broadcast S16x256 (Scalar.addi 466689008#32 4#32))
  let a16 := addi c16 d16
  let b17 := rnd 13#32 19#32 a16 d16
  let a17 := addi a16 b17
  let b18 := rnd 15#32 17#32 a17 b17
  let a18 := addi a17 b18
  let b19 := rnd 26#32 6#32 a18 b18
  let a19 := addi a18 b19
  let b20 := rnd 6#32 26#32 a19 b19
  xori (addi a19 (broadcast S16x256 466689008#32)) (addi b20 (broadcast S16x256 5#32))

/-- The score of every lane of a slice: the logit less the logarithm of minus the logarithm of the uniform draw. -/
def scoreOf (x : IVec S16x256 32) (lg : FVec F S16x256 .f32) : FVec F S16x256 .f32 :=
  subf lg (log (subf (broadcast S16x256 (Scalar.ofBits .f32 0x00000000#32))
    (log (maximumf
      (subf (bitcastToFloat .f32 (ori (shrui (bitsOf x) (broadcast S16x256 9#32)) (broadcast S16x256 1065353216#32)))
        (broadcast S16x256 (Scalar.ofBits .f32 0x3F800000#32)))
      (broadcast S16x256 (Scalar.ofBits .f32 0x00800000#32))))))

/-- What a core carries through a chunk: the best score of each lane and the number of the step it was met at. -/
abbrev Carry (F : FTy → Type) := FVec F S16x256 .f32 × IVec S16x256 32

/-- A slice's scores met: where strictly better, the score and the step's number `n` replace what is carried. -/
def upd (s : FVec F S16x256 .f32) (n : BitVec 32) (p : Carry F) : Carry F :=
  (select (cmpf .ogt s p.1) s p.1, select (cmpf .ogt s p.1) (broadcast S16x256 n) p.2)

/-- The counters' part that does not depend on the chunk: row, column in the slice and the key's first word. -/
def ctr0 (i : grid0.Coords) : IVec S16x256 32 :=
  addi (addi (broadcast S16x256 (Scalar.muli (Scalar.muli (BitVec.ofNat 32 (i 0).val) 16#32) 1000000#32))
    (addi (muli (iota .tc S16x256 32 [0] iota_S16x256_d0_w32) (broadcast S16x256 1000000#32)) (broadcast S16x256 42#32)))
    (iota .tc S16x256 32 [1] iota_S16x256_d1_w32)

/-- The scores of step `n` on the loaded slice `lg`. -/
def stepScore (i : grid0.Coords) (n : BitVec 32) (lg : FVec F S16x256 .f32) : FVec F S16x256 .f32 :=
  scoreOf (addi (ctr0 i) (broadcast S16x256
    (Scalar.addi (Scalar.muli (BitVec.ofNat 32 (i 1).val) 100352#32) (Scalar.muli n 256#32)))) lg

/-- The step's number over the whole row. -/
def stepNo (i : grid0.Coords) (n : BitVec 32) : BitVec 32 :=
  Scalar.addi (Scalar.muli (BitVec.ofNat 32 (i 1).val) 392#32) n

/-- A step of the counted loop. -/
def stepU (i : grid0.Coords) (n : BitVec 32) (lg : FVec F S16x256 .f32) (p : Carry F) : Carry F :=
  upd (stepScore i n lg) (stepNo i n) p

/-- The scores of a masked step: minus infinity past the row's end in the last chunk. -/
def maskScore (i : grid0.Coords) (n : BitVec 32) (lg : FVec F S16x256 .f32) : FVec F S16x256 .f32 :=
  select (cmpi .slt (addi (iota .tc S16x256 32 [1] iota_S16x256_d1_w32) (broadcast S16x256
      (Scalar.addi (Scalar.muli (BitVec.ofNat 32 (i 1).val) 100352#32) (Scalar.muli n 256#32))))
    (broadcast S16x256 (Scalar.select (Scalar.cmpi .eq (BitVec.ofNat 32 (i 1).val) 9#32) 1000000#32 2147483647#32)))
    (stepScore i n lg) (broadcast S16x256 (Scalar.ofBits .f32 0xFF800000#32))

/-- A masked step. -/
def stepM (i : grid0.Coords) (n : BitVec 32) (lg : FVec F S16x256 .f32) (p : Carry F) : Carry F :=
  upd (maskScore i n lg) (stepNo i n) p

/-- What a core starts a chunk with. -/
def carry0 : Carry F :=
  (broadcast S16x256 (Scalar.ofBits .f32 0xFF800000#32), broadcast S16x256 0#32)

/-- The kernel's programs. -/
abbrev KProg (F : FTy → Type) [FloatOps F] (α : Type) := Prog (TpuEff nD τ sig (Elt F) Λ₀ .tc) α

/-- The slice the counted loop's trip `t` loads. -/
def loadU (arg2 : Memref sig .tc .vmem S16x100352 .f32) (t : Fin k0_t1_loop.trips) : KProg F (Vec F S16x256 .f32) :=
  Prog.lift (.load arg2 (Rect.unit (s := S16x100352) (k0_off1 t) S16x256.size (k0_off1_inb t)).toLoadRect
    (View.loadsAt_vmem h_S16x256))

/-- The slice the masked step `343 + j` loads. -/
def loadM (arg2 : Memref sig .tc .vmem S16x100352 .f32) (j : Fin 49) : KProg F (Vec F S16x256 .f32) :=
  Prog.lift (.load arg2 (Rect.unit (s := S16x100352) (k0_off2 (BitVec.ofNat 32 (343 + j.val))) S16x256.size (k0_off2_inb j)).toLoadRect
    (View.loadsAt_vmem h_S16x256))

/-- The counted loop. -/
def loopU (i : grid0.Coords) (arg2 : Memref sig .tc .vmem S16x100352 .f32) : KProg F (Carry F) :=
  Scf.Loop.for k0_t1_loop k0_t1_ok carry0 fun t p => do
    let lg ← loadU arg2 t
    pure (stepU i (Scf.iv 0#32 1#32 t) lg p)

/-- The last `r` masked steps. -/
def stepsM (i : grid0.Coords) (arg2 : Memref sig .tc .vmem S16x100352 .f32) : (r : Nat) → r ≤ 49 → Carry F → KProg F (Carry F)
  | 0, _, p => pure p
  | r + 1, h, p => do
    let lg ← loadM arg2 ⟨48 - r, by omega⟩
    stepsM i arg2 r (Nat.le_of_succ_le h) (stepM i (BitVec.ofNat 32 (343 + (48 - r))) lg p)

/-- The first chunk of a row block: the carried pair is stored. -/
def initS (arg4 : Memref sig .tc .vmem S16x256 .f32) (arg5 : Memref sig .tc .vmem S16x256 .i32) (p : Carry F) : KProg F PUnit := do
  let _v : Vec F S16x256 .f32 ← Prog.lift (.load arg4 (Rect.unit (s := S16x256) ![0, 0] S16x256.size inb_S16x256_S16x256_0_0).toLoadRect (View.loadsAt_vmem h_S16x256))
  Prog.lift (.store arg4 (Rect.unit (s := S16x256) ![0, 0] S16x256.size inb_S16x256_S16x256_0_0) (shapeCast S16x256 p.1 shapeCasts_S16x256_S16x256) Finset.univ (View.stores_vmem_bits_univ h_S16x256 rfl) (.inl rfl))
  let _v : Vec F S16x256 .i32 ← Prog.lift (.load arg5 (Rect.unit (s := S16x256) ![0, 0] S16x256.size inb_S16x256_S16x256_0_0).toLoadRect (View.loadsAt_vmem h_S16x256))
  Prog.lift (.store arg5 (Rect.unit (s := S16x256) ![0, 0] S16x256.size inb_S16x256_S16x256_0_0) (shapeCast S16x256 p.2 shapeCasts_S16x256_S16x256) Finset.univ (View.stores_vmem_bits_univ h_S16x256 rfl) (.inl rfl))
  pure ⟨⟩

/-- A later chunk: what it carries replaces what the chunks before stored where strictly better. -/
def mergeS (arg4 : Memref sig .tc .vmem S16x256 .f32) (arg5 : Memref sig .tc .vmem S16x256 .i32) (p : Carry F) : KProg F PUnit := do
  let pm : Vec F S16x256 .f32 ← Prog.lift (.load arg4 (Rect.unit (s := S16x256) ![0, 0] S16x256.size inb_S16x256_S16x256_0_0).toLoadRect (View.loadsAt_vmem h_S16x256))
  let _v : Vec F S16x256 .f32 ← Prog.lift (.load arg4 (Rect.unit (s := S16x256) ![0, 0] S16x256.size inb_S16x256_S16x256_0_0).toLoadRect (View.loadsAt_vmem h_S16x256))
  Prog.lift (.store arg4 (Rect.unit (s := S16x256) ![0, 0] S16x256.size inb_S16x256_S16x256_0_0) (shapeCast S16x256 (select (cmpf .ogt p.1 pm) p.1 pm) shapeCasts_S16x256_S16x256) Finset.univ (View.stores_vmem_bits_univ h_S16x256 rfl) (.inl rfl))
  let pi : Vec F S16x256 .i32 ← Prog.lift (.load arg5 (Rect.unit (s := S16x256) ![0, 0] S16x256.size inb_S16x256_S16x256_0_0).toLoadRect (View.loadsAt_vmem h_S16x256))
  let _v : Vec F S16x256 .i32 ← Prog.lift (.load arg5 (Rect.unit (s := S16x256) ![0, 0] S16x256.size inb_S16x256_S16x256_0_0).toLoadRect (View.loadsAt_vmem h_S16x256))
  Prog.lift (.store arg5 (Rect.unit (s := S16x256) ![0, 0] S16x256.size inb_S16x256_S16x256_0_0) (shapeCast S16x256 (select (cmpf .ogt p.1 pm) p.2 pi) shapeCasts_S16x256_S16x256) Finset.univ (View.stores_vmem_bits_univ h_S16x256 rfl) (.inl rfl))
  pure ⟨⟩

/-- The answer of a row block from its lanes: the smallest column among the lanes holding the row's best score. -/
def answer (mx : FVec F S16x256 .f32) (ix : IVec S16x256 32) : IVec S16x1 32 :=
  shapeCast S16x1 (multiReductionI .minsi [1] S16
    (select (cmpf .oeq mx (broadcastTo S16x256 (shapeCast S16x1 (multiReduction .maximumf [1] S16 mx 0xFF800000#32 reduces_S16x256_S16 (.inl rfl) rfl) shapeCasts_S16_S16x1) broadcasts_S16x1_S16x256))
      (addi (muli ix (broadcast S16x256 256#32)) (iota .tc S16x256 32 [1] iota_S16x256_d1_w32))
      (broadcast S16x256 2147483647#32)) 2147483647#32 reduces_S16x256_S16 rfl) shapeCasts_S16_S16x1

/-- The last chunk: the answer is stored. -/
def emitS (arg3 : Memref sig .tc .vmem S16x1 .i32) (arg4 : Memref sig .tc .vmem S16x256 .f32) (arg5 : Memref sig .tc .vmem S16x256 .i32) : KProg F PUnit := do
  let mx : Vec F S16x256 .f32 ← Prog.lift (.load arg4 (Rect.unit (s := S16x256) ![0, 0] S16x256.size inb_S16x256_S16x256_0_0).toLoadRect (View.loadsAt_vmem h_S16x256))
  let ix : Vec F S16x256 .i32 ← Prog.lift (.load arg5 (Rect.unit (s := S16x256) ![0, 0] S16x256.size inb_S16x256_S16x256_0_0).toLoadRect (View.loadsAt_vmem h_S16x256))
  let _v : Vec F S16x1 .i32 ← Prog.lift (.load arg3 (Rect.unit (s := S16x1) ![0, 0] S16x1.size inb_S16x1_S16x1_0_0).toLoadRect (View.loadsAt_vmem h_S16x1))
  Prog.lift (.store arg3 (Rect.unit (s := S16x1) ![0, 0] S16x1.size inb_S16x1_S16x1_0_0) (answer mx ix) Finset.univ (View.stores_vmem_bits_univ h_S16x1 rfl) (.inl rfl))
  pure ⟨⟩

/-- Whether the point is a row block's first chunk, and whether it is a later one, as the kernel computes them. -/
def isFirst (i : grid0.Coords) : BitVec 1 :=
  Scalar.cmpi .ne (Scalar.extui (Scalar.cmpi .eq (BitVec.ofNat 32 (i 1).val) 0#32) : BitVec 32) 0#32
def isLater (i : grid0.Coords) : BitVec 1 :=
  Scalar.cmpi .ne (Scalar.extui (Scalar.cmpi .sgt (BitVec.ofNat 32 (i 1).val) 0#32) : BitVec 32) 0#32

/-- What follows the chunk's steps. -/
def finish (i : grid0.Coords) (arg3 : Memref sig .tc .vmem S16x1 .i32) (arg4 : Memref sig .tc .vmem S16x256 .f32)
    (arg5 : Memref sig .tc .vmem S16x256 .i32) (p : Carry F) : KProg F PUnit := do
  if _h1 : isFirst i = 1#1 then initS arg4 arg5 p else pure ⟨⟩
  if _h2 : isLater i = 1#1 then mergeS arg4 arg5 p else pure ⟨⟩
  if _h3 : k0_cond3 i = 1#1 then emitS arg3 arg4 arg5 else pure ⟨⟩
  pure ⟨⟩

/-- The kernel's body. -/
def body (i : grid0.Coords) (arg2 : Memref sig .tc .vmem S16x100352 .f32) (arg3 : Memref sig .tc .vmem S16x1 .i32)
    (arg4 : Memref sig .tc .vmem S16x256 .f32) (arg5 : Memref sig .tc .vmem S16x256 .i32) : KProg F PUnit := do
  let p ← loopU i arg2
  let q ← stepsM i arg2 49 (Nat.le_refl _) p
  finish i arg3 arg4 arg5 q

/-- The printed body's first part: the counted loop, then the first rounds of masked step 343. -/
theorem part5_eq (i : grid0.Coords) (arg2 : Memref sig .tc .vmem S16x100352 .f32) (harg2 : arg2.IsWhole) (arg3 : Memref sig .tc .vmem S16x1 .i32)
    (harg3 : arg3.IsWhole) (arg4 : Memref sig .tc .vmem S16x256 .f32) (harg4 : arg4.IsWhole) (arg5 : Memref sig .tc .vmem S16x256 .i32) (harg5 : arg5.IsWhole) :
    k0_part5 (F := F) i arg2 harg2 arg3 harg3 arg4 harg4 arg5 harg5 = loopU i arg2 >>= fun p =>
      let x := addi (ctr0 i) (broadcast S16x256 (Scalar.addi (Scalar.muli (BitVec.ofNat 32 (i 1).val) 100352#32) (Scalar.muli 343#32 256#32)))
      let b1 := rnd 13#32 19#32 x x
      let a1 := addi x b1
      let b2 := rnd 15#32 17#32 a1 b1
      let a2 := addi a1 b2
      pure ⟨BitVec.ofNat 32 (i 1).val, Scalar.cmpi .eq (BitVec.ofNat 32 (i 1).val) 9#32,
        Scalar.select (Scalar.cmpi .eq (BitVec.ofNat 32 (i 1).val) 9#32) 1000000#32 2147483647#32,
        iota .tc S16x256 32 [1] iota_S16x256_d1_w32, ctr0 i, Scalar.muli (BitVec.ofNat 32 (i 1).val) 100352#32,
        Scalar.muli (BitVec.ofNat 32 (i 1).val) 392#32, p.1, p.2, 343#32, b2, a2⟩ := by
  sl_kernel_rfl

/-- The printed body is `body`. -/
theorem body_eq (i : grid0.Coords) (arg2 : Memref sig .tc .vmem S16x100352 .f32) (harg2 : arg2.IsWhole) (arg3 : Memref sig .tc .vmem S16x1 .i32)
    (harg3 : arg3.IsWhole) (arg4 : Memref sig .tc .vmem S16x256 .f32) (harg4 : arg4.IsWhole) (arg5 : Memref sig .tc .vmem S16x256 .i32) (harg5 : arg5.IsWhole) :
    cc0__body (F := F) i arg2 harg2 arg3 harg3 arg4 harg4 arg5 harg5 = body i arg2 arg3 arg4 arg5 := by
  unfold cc0__body k0_part218 body
  rw [part5_eq]
  rw [Prog.bind_assoc, Prog.bind_assoc]
  sl_kernel_rfl

end Cert.KernelProof

end
-- ==== Proof.Chunk.lean ====
/- What the kernel's body computes from a staged block and the carried pair, as functions: the fold of the counted
   loop's steps, that of the masked steps, the merge with what earlier chunks left. `chunk_congr`: only the block's
   columns inside the array matter. -/
module

public import proofs.«01_k».proof.Proof.Body

@[expose] public section

set_option maxRecDepth 16384

noncomputable section

namespace Cert.KernelProof

open Cert.KernelIdeal Cert.KernelIdeal.Facts₀
open Idealize.ShloMosaic Idealize.ShloMosaic.TcCoe
open Idealize.SL.Sem

variable {F : FTy → Type} [FloatOps F] [Cert.KernelIdeal.Facts]

/-- A staged block. -/
abbrev Blk (F : FTy → Type) := S16x100352.Idx → F .f32

/-- The slice trip `t` of the counted loop reads. -/
def sliceU (X : Blk F) (t : Fin k0_t1_loop.trips) : FVec F S16x256 .f32 := fun x =>
  X ((Rect.unit (s := S16x100352) (k0_off1 t) S16x256.size (k0_off1_inb t)).toLoadRect.idx x)

/-- The slice masked step `343 + j` reads. -/
def sliceM (X : Blk F) (j : Fin 49) : FVec F S16x256 .f32 := fun x =>
  X ((Rect.unit (s := S16x100352) (k0_off2 (BitVec.ofNat 32 (343 + j.val))) S16x256.size (k0_off2_inb j)).toLoadRect.idx x)

/-- What is carried after the counted loop's first `k` trips. -/
def foldU (i : grid0.Coords) (X : Blk F) : Nat → Carry F
  | 0 => carry0
  | k + 1 => if h : k < k0_t1_loop.trips then stepU i (Scf.iv 0#32 1#32 k) (sliceU X ⟨k, h⟩) (foldU i X k) else foldU i X k

/-- One more trip. -/
theorem foldU_succ (i : grid0.Coords) (X : Blk F) (k : Fin k0_t1_loop.trips) :
    foldU i X (k.val + 1) = stepU i (Scf.iv 0#32 1#32 k) (sliceU X k) (foldU i X k.val) := by
  rw [foldU, dif_pos k.isLt]

/-- What the last `r` masked steps make of the carried pair. -/
def foldM (i : grid0.Coords) (X : Blk F) : (r : Nat) → r ≤ 49 → Carry F → Carry F
  | 0, _, p => p
  | r + 1, h, p => foldM i X r (Nat.le_of_succ_le h)
      (stepM i (BitVec.ofNat 32 (343 + (48 - r))) (sliceM X ⟨48 - r, by omega⟩) p)

/-- What a chunk's steps end with. -/
def chunk (i : grid0.Coords) (X : Blk F) : Carry F :=
  foldM i X 49 (Nat.le_refl _) (foldU i X k0_t1_loop.trips)

/-- A later chunk's pair met with what earlier chunks left. -/
def merge (p s : Carry F) : Carry F :=
  (select (cmpf .ogt p.1 s.1) p.1 s.1, select (cmpf .ogt p.1 s.1) p.2 s.2)

/-- What the two scratch buffers hold after a point, from what they held before it. -/
def left (i : grid0.Coords) (p s : Carry F) : Carry F := if (i 1).val = 0 then p else merge p s

/-- The counted loop makes 343 trips. -/
theorem trips_eq : k0_t1_loop.trips = 343 := by decide +kernel

theorem isFirst_iff (i : grid0.Coords) : isFirst i = 1#1 ↔ (i 1).val = 0 := by
  have h : ∀ k : Fin 10, Scalar.cmpi .ne (Scalar.extui (Scalar.cmpi .eq (BitVec.ofNat 32 k.val) 0#32) : BitVec 32) 0#32 = 1#1 ↔ k.val = 0 := by
    decide +kernel
  exact h (i 1)
theorem isLater_iff (i : grid0.Coords) : isLater i = 1#1 ↔ (i 1).val ≠ 0 := by
  have h : ∀ k : Fin 10, Scalar.cmpi .ne (Scalar.extui (Scalar.cmpi .sgt (BitVec.ofNat 32 k.val) 0#32) : BitVec 32) 0#32 = 1#1 ↔ k.val ≠ 0 := by
    decide +kernel
  exact h (i 1)
theorem isLast_iff (i : grid0.Coords) : k0_cond3 i = 1#1 ↔ (i 1).val = 9 := by
  have h : ∀ k : Fin 10, Scalar.cmpi .ne (Scalar.extui (Scalar.cmpi .eq (BitVec.ofNat 32 k.val) 9#32) : BitVec 32) 0#32 = 1#1 ↔ k.val = 9 := by
    decide +kernel
  exact h (i 1)

/-- Two blocks agree on the columns inside the array. -/
def Agree (i : grid0.Coords) (X X' : Blk F) : Prop :=
  ∀ j : S16x100352.Idx, (i 1).val * 100352 + (j 1).val < 1000000 → X j = X' j

/-- The column of the block a trip's lane reads. -/
theorem sliceU_col (t : Fin k0_t1_loop.trips) (x : S16x256.Idx) :
    ((Rect.unit (s := S16x100352) (k0_off1 t) S16x256.size (k0_off1_inb t)).toLoadRect.idx x (1 : Fin 2)).val = 256 * t.val + (x 1).val := by
  rw [LoadRect.idx_apply]
  show k0_off1 t 1 + 1 * (x 1).val = _
  rw [Gen.k0_off1_eq t]
  show 256 * t.val + 1 * (x 1).val = _
  omega
theorem sliceU_row (t : Fin k0_t1_loop.trips) (x : S16x256.Idx) :
    ((Rect.unit (s := S16x100352) (k0_off1 t) S16x256.size (k0_off1_inb t)).toLoadRect.idx x (0 : Fin 2)).val = (x 0).val := by
  rw [LoadRect.idx_apply]
  show k0_off1 t 0 + 1 * (x 0).val = _
  rw [Gen.k0_off1_eq t]
  show 0 + 1 * (x 0).val = _
  omega
theorem sliceM_col (j : Fin 49) (x : S16x256.Idx) :
    ((Rect.unit (s := S16x100352) (k0_off2 (BitVec.ofNat 32 (343 + j.val))) S16x256.size (k0_off2_inb j)).toLoadRect.idx x (1 : Fin 2)).val
      = 256 * (343 + j.val) + (x 1).val := by
  rw [LoadRect.idx_apply]
  show k0_off2 (BitVec.ofNat 32 (343 + j.val)) 1 + 1 * (x 1).val = _
  rw [Gen.k0_off2_eq j]
  show 256 * j.val + 87808 + 1 * (x 1).val = _
  omega
theorem sliceM_row (j : Fin 49) (x : S16x256.Idx) :
    ((Rect.unit (s := S16x100352) (k0_off2 (BitVec.ofNat 32 (343 + j.val))) S16x256.size (k0_off2_inb j)).toLoadRect.idx x (0 : Fin 2)).val = (x 0).val := by
  rw [LoadRect.idx_apply]
  show k0_off2 (BitVec.ofNat 32 (343 + j.val)) 0 + 1 * (x 0).val = _
  rw [Gen.k0_off2_eq j]
  show 0 + 1 * (x 0).val = _
  omega

/-- A small number's word reads back as itself, signed. -/
theorem toInt_word (n : Nat) (h : n < 2147483648) : (BitVec.ofNat 32 n).toInt = n := by
  rw [BitVec.toInt_ofNat', Int.bmod_def]; norm_cast; omega

/-- A signed comparison of two small numbers' words. -/
theorem slt_word (a b : Nat) (ha : a < 2147483648) (hb : b < 2147483648) :
    IntOp.cmpi .slt (BitVec.ofNat 32 a) (BitVec.ofNat 32 b) = 1#1 ↔ a < b := by
  unfold IntOp.cmpi
  have h : (BitVec.ofNat 32 a).slt (BitVec.ofNat 32 b) = decide (a < b) := by
    rw [BitVec.slt_eq_decide, toInt_word a ha, toInt_word b hb]; simp
  simp only [h]
  by_cases hab : a < b <;> simp [hab]

/-- The mask of a masked step, read as numbers: the column is inside the array (in every chunk but the last it always is). -/
theorem mask_iff (k : Fin 10) (j : Fin 49) (l : Fin 256) :
    IntOp.cmpi .slt (IntOp.addi (BitVec.ofNat 32 l.val) (Scalar.addi (Scalar.muli (BitVec.ofNat 32 k.val) 100352#32) (Scalar.muli (BitVec.ofNat 32 (343 + j.val)) 256#32)))
      (Scalar.select (Scalar.cmpi .eq (BitVec.ofNat 32 k.val) 9#32) 1000000#32 2147483647#32) = 1#1
      ↔ k.val * 100352 + (256 * (343 + j.val) + l.val) < 1000000 := by
  have hs : ∀ n : Nat, IntOp.addi (BitVec.ofNat 32 l.val) (Scalar.addi (Scalar.muli (BitVec.ofNat 32 k.val) 100352#32) (Scalar.muli (BitVec.ofNat 32 n) 256#32))
      = BitVec.ofNat 32 (l.val + (k.val * 100352 + n * 256)) := by
    intro n; rw [BitVec.ofNat_add, BitVec.ofNat_add, BitVec.ofNat_mul, BitVec.ofNat_mul]; rfl
  have hl : Scalar.select (Scalar.cmpi .eq (BitVec.ofNat 32 k.val) 9#32) 1000000#32 2147483647#32
      = BitVec.ofNat 32 (if k.val = 9 then 1000000 else 2147483647) := by
    have h : ∀ k : Fin 10, Scalar.select (Scalar.cmpi .eq (BitVec.ofNat 32 k.val) 9#32) 1000000#32 2147483647#32
        = BitVec.ofNat 32 (if k.val = 9 then 1000000 else 2147483647) := by decide +kernel
    exact h k
  rw [hs, hl, slt_word _ _ (by omega) (by split <;> omega)]
  split <;> omega

/-- The score at a lane reads the logits at that lane only. -/
theorem stepScore_congr (i : grid0.Coords) (n : BitVec 32) (lg lg' : FVec F S16x256 .f32) (x : S16x256.Idx) (h : lg x = lg' x) :
    stepScore i n lg x = stepScore i n lg' x := by
  show FloatOps.subf (lg x) _ = FloatOps.subf (lg' x) _
  rw [h]

/-- The lane numbers and the row numbers of a slice. -/
theorem lane_apply (x : S16x256.Idx) : iota .tc S16x256 32 [1] iota_S16x256_d1_w32 x = BitVec.ofNat 32 (x 1).val := by
  show BitVec.ofNat 32 (0 * 256 + (x 1).val) = _
  rw [Nat.zero_mul, Nat.zero_add]
theorem row_apply (x : S16x256.Idx) : iota .tc S16x256 32 [0] iota_S16x256_d0_w32 x = BitVec.ofNat 32 (x 0).val := by
  show BitVec.ofNat 32 (0 * 16 + (x 0).val) = _
  rw [Nat.zero_mul, Nat.zero_add]

/-- A masked step's score at a lane: the score inside the array, minus infinity past its end. -/
theorem maskScore_apply (i : grid0.Coords) (j : Fin 49) (lg : FVec F S16x256 .f32) (x : S16x256.Idx) :
    maskScore i (BitVec.ofNat 32 (343 + j.val)) lg x
      = if (i 1).val * 100352 + (256 * (343 + j.val) + (x 1).val) < 1000000 then stepScore i (BitVec.ofNat 32 (343 + j.val)) lg x
        else Scalar.ofBits .f32 0xFF800000#32 := by
  have hm := mask_iff (i 1) j (x 1)
  show Scalar.select (IntOp.cmpi .slt (IntOp.addi (iota .tc S16x256 32 [1] iota_S16x256_d1_w32 x)
      (Scalar.addi (Scalar.muli (BitVec.ofNat 32 (i 1).val) 100352#32) (Scalar.muli (BitVec.ofNat 32 (343 + j.val)) 256#32)))
      (Scalar.select (Scalar.cmpi .eq (BitVec.ofNat 32 (i 1).val) 9#32) 1000000#32 2147483647#32)) _ _ = _
  rw [lane_apply]
  by_cases hx : (i 1).val * 100352 + (256 * (343 + j.val) + (x 1).val) < 1000000
  · rw [if_pos hx]; exact if_pos (hm.mpr hx)
  · rw [if_neg hx]; exact if_neg (fun hh => hx (hm.mp hh))

theorem maskScore_congr (i : grid0.Coords) (j : Fin 49) (lg lg' : FVec F S16x256 .f32)
    (h : ∀ x : S16x256.Idx, (i 1).val * 100352 + (256 * (343 + j.val) + (x 1).val) < 1000000 → lg x = lg' x) :
    maskScore i (BitVec.ofNat 32 (343 + j.val)) lg = maskScore i (BitVec.ofNat 32 (343 + j.val)) lg' := by
  funext x
  rw [maskScore_apply, maskScore_apply]
  split
  · rename_i hx; exact stepScore_congr i _ lg lg' x (h x hx)
  · rfl

theorem foldU_congr (i : grid0.Coords) (X X' : Blk F) (h : Agree i X X') (k : Nat) : foldU i X k = foldU i X' k := by
  induction k with
  | zero => rfl
  | succ k ih =>
    unfold foldU
    rw [ih]
    split
    · rename_i hk
      congr 1
      funext x
      refine h _ ?_
      rw [sliceU_col]
      have h10 : (i 1).val < 10 := (i 1).isLt
      have h256 : (x 1).val < 256 := (x 1).isLt
      have := trips_eq
      show _ + (256 * k + _) < _
      omega
    · rfl

theorem foldM_congr (i : grid0.Coords) (X X' : Blk F) (h : Agree i X X') (r : Nat) (hr : r ≤ 49) (p : Carry F) :
    foldM i X r hr p = foldM i X' r hr p := by
  induction r generalizing p with
  | zero => rfl
  | succ r ih =>
    unfold foldM
    rw [ih]
    congr 1
    unfold stepM
    congr 1
    refine maskScore_congr i ⟨48 - r, by omega⟩ _ _ fun x hx => h _ ?_
    rw [sliceM_col]
    exact hx

/-- A chunk's result depends on the block's columns inside the array only. -/
theorem chunk_congr (i : grid0.Coords) (X X' : Blk F) (h : Agree i X X') : chunk i X = chunk i X' := by
  unfold chunk
  rw [foldU_congr i X X' h, foldM_congr i X X' h]

end Cert.KernelProof

end

end
-- ==== Proof.Rules.lean ====
/- The body's triple: from the staged block, the result's buffer and the two scratch buffers at named contents, the
   body runs and leaves the block, the result's buffer and the scratch buffers at what `Chunk` computes. -/
module

public import proofs.«01_k».proof.Proof.Chunk
public import Idealize.ShloMosaic.Lib.Pipeline.FrameSuffix
public import Idealize.ShloMosaic.Lib.VecWindow
public import Idealize.ShloMosaic.Lib.Scf
public import Idealize.ShloMosaic.Lib.Pointwise

@[expose] public section

set_option maxRecDepth 16384

noncomputable section

namespace Cert.KernelProof

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig Unit (Elt F) ℕ (UR sig nD τ) ℕ

/-- The kernel has no variants. -/
abbrev 𝒱₀ : Variants := Variants.none

/-- A load from a memref at contents `X` continues at `X` read through the rectangle. -/
theorem wp_load_owns (c : Dev nD) {s : Shape} {e : EltTy} (M : Memref sig .tc .vmem s e) (r : LoadRect s) (hl : M.view.LoadsAt r)
    {α : Type} (k : (r.shape.Idx → Elt F e) → KProg F α) (X : s.Idx → Elt F e) (Q : α → sProp 𝕄) :
    (owns (c : Thread nD τ) M fullShare X : sProp 𝕄)
      ⊢ iprop((owns (c : Thread nD τ) M fullShare X -∗ wp frame (wpE (defs₀ (F := F)) 𝒱₀ c none) Set.univ (k fun x => X (r.idx x)) Q)
        -∗ wp frame (wpE (defs₀ (F := F)) 𝒱₀ c none) Set.univ (.op (.load M r hl) k) Q) := by
  unfold owns
  iintro ⟨%f, %hf, H⟩ HK
  have hr : M.view.readAt (Elt F) r f = fun x => X (r.idx x) := by funext x; rw [← hf]; rfl
  rw [← hr]
  iapply (wp_load 𝒱₀ (c : Thread nD τ) none Set.univ (m := M) (View.setOn_subset_set _ _)) $$ H
  iintro H
  iapply HK
  iexists f
  isplitr
  · ipureintro; exact hf
  · iexact H

/-- A store over the whole of a memref leaves it at the payload. -/
theorem wp_store_owns (c : Dev nD) {s : Shape} {e : EltTy} (M : Memref sig .tc .vmem s e) (r : Rect s) (w : r.shape.Idx → Elt F e)
    (hx : (M.access r).Stores Finset.univ) (hm : Finset.univ = Finset.univ ∨ ∀ a, r.stride a = 1)
    {α : Type} (k : PUnit → KProg F α) (X W : s.Idx → Elt F e) (hfull : ∀ y, ∃ x, r.emb x = y ∧ w x = W y) (Q : α → sProp 𝕄) :
    (owns (c : Thread nD τ) M fullShare X : sProp 𝕄)
      ⊢ iprop((owns (c : Thread nD τ) M fullShare W -∗ wp frame (wpE (defs₀ (F := F)) 𝒱₀ c none) Set.univ (k ⟨⟩) Q)
        -∗ wp frame (wpE (defs₀ (F := F)) 𝒱₀ c none) Set.univ (.op (.store M r w Finset.univ hx hm) k) Q) := by
  unfold owns
  iintro ⟨%f, %hf, H⟩ HK
  iapply (wp_store 𝒱₀ (c : Thread nD τ) none Set.univ (m := M) (r := r) (Mk := Finset.univ) (S := M.view.set) (View.set_slice_subset _ _)) $$ H
  iintro H
  iapply HK
  iexists (M.access r).write (Elt F) f w Finset.univ
  isplitr
  · ipureintro
    funext y
    obtain ⟨x, rfl, hw⟩ := hfull y
    rw [← hw]
    exact View.read_slice_write_emb r f w (Finset.mem_univ x)
  · iexact H

/-- The counted loop reads the block and ends with its fold. -/
theorem wp_loopU (c : Dev nD) (i : grid0.Coords) (arg2 : Memref sig .tc .vmem S16x100352 .f32) (X : Blk F) :
    (owns (c : Thread nD τ) arg2 fullShare X : sProp 𝕄)
      ⊢ wp frame (wpE (defs₀ (F := F)) 𝒱₀ c none) Set.univ (loopU (F := F) i arg2)
          fun p => iprop(⌜p = foldU i X k0_t1_loop.trips⌝ ∗ owns (c : Thread nD τ) arg2 fullShare X) := by
  unfold loopU
  have hstep : ∀ (k : Fin (Scf.trips k0_t1_loop.lb k0_t1_loop.ub k0_t1_loop.st)) (p : Carry F),
      iprop(⌜p = foldU i X k.val⌝ ∗ owns (c : Thread nD τ) arg2 fullShare X : sProp 𝕄)
        ⊢ wp frame (wpE (defs₀ (F := F)) 𝒱₀ c none) Set.univ
            (loadU arg2 k >>= fun lg => pure (stepU i (Scf.iv 0#32 1#32 k) lg p))
            fun p => iprop(⌜p = foldU i X (k.val + 1)⌝ ∗ owns (c : Thread nD τ) arg2 fullShare X) := by
    intro k p
    simp only [loadU, Prog.lift, Prog.bind_op, Prog.bind_ret]
    iintro ⟨%hp, H⟩
    iapply (wp_load_owns c arg2 _ _ _ X) $$ H
    iintro H
    iapply (le_wp_ret frame (wpE (defs₀ (F := F)) 𝒱₀ c none) Set.univ)
    isplitr
    · ipureintro
      subst hp
      exact (foldU_succ i X k).symm
    · iexact H
  iintro H
  iapply (Scf.wp_for frame (wpE (defs₀ (F := F)) 𝒱₀ c none) Set.univ k0_t1_loop.lb k0_t1_loop.ub k0_t1_loop.st k0_t1_ok carry0 _
    (fun k p => iprop(⌜p = foldU i X k⌝ ∗ owns (c : Thread nD τ) arg2 fullShare X)) hstep)
  isplitl [H]
  · isplitr
    · ipureintro; rfl
    · iexact H
  · iintro %p H
    iexact H

/-- The last `r` masked steps read the block and end with their fold. -/
theorem wp_stepsM (c : Dev nD) (i : grid0.Coords) (arg2 : Memref sig .tc .vmem S16x100352 .f32) (X : Blk F) (r : Nat) (hr : r ≤ 49)
    (p : Carry F) :
    (owns (c : Thread nD τ) arg2 fullShare X : sProp 𝕄)
      ⊢ wp frame (wpE (defs₀ (F := F)) 𝒱₀ c none) Set.univ (stepsM i arg2 r hr p)
          fun q => iprop(⌜q = foldM i X r hr p⌝ ∗ owns (c : Thread nD τ) arg2 fullShare X) := by
  induction r generalizing p with
  | zero =>
    iintro H
    iapply (le_wp_ret frame (wpE (defs₀ (F := F)) 𝒱₀ c none) Set.univ)
    isplitr
    · ipureintro; rfl
    · iexact H
  | succ r ih =>
    iintro H
    unfold stepsM
    simp only [loadM, Prog.lift, Prog.bind_op, Prog.bind_ret]
    iapply (wp_load_owns c arg2 _ _ _ X) $$ H
    iintro H
    iapply (ih (Nat.le_of_succ_le hr) _) $$ H

/-- A whole store's rectangle covers the buffer. -/
theorem full_emb {s : Shape} {e : EltTy} {off : Fin s.rank → Nat} (h : ∀ a, off a = 0) (inb : ∀ a, off a + s.size a ≤ s.size a)
    (W : s.Idx → Elt F e) (y : s.Idx) :
    ∃ x : (Rect.unit off s.size inb).shape.Idx, (Rect.unit off s.size inb).emb x = y ∧ (W x) = W y := by
  refine ⟨y, ?_, rfl⟩
  funext a
  apply Fin.ext
  show off a + 1 * (y a).val = (y a).val
  rw [h a]; omega

/-- A whole load reads the buffer's contents. -/
theorem full_idx {s : Shape} {e : EltTy} {off : Fin s.rank → Nat} (h : ∀ a, off a = 0) (inb : ∀ a, off a + s.size a ≤ s.size a)
    (X : s.Idx → Elt F e) :
    (fun x => X ((Rect.unit off s.size inb).toLoadRect.idx x)) = X := by
  funext y
  congr 1
  funext a
  apply Fin.ext
  show off a + 1 * (y a).val = (y a).val
  rw [h a]; omega

theorem zero2 : ∀ a : Fin 2, (![0, 0] : Fin 2 → Nat) a = 0 := by decide

/-- A reshape to the same shape changes nothing. -/
theorem cast_same {α : Type} (x : S16x256.Idx → α) : shapeCast S16x256 x shapeCasts_S16x256_S16x256 = x := by
  exact shapeCast_id x _

/-- The first chunk's stores. -/
theorem wp_initS (c : Dev nD) (arg4 : Memref sig .tc .vmem S16x256 .f32) (arg5 : Memref sig .tc .vmem S16x256 .i32) (p S : Carry F) :
    iprop(owns (c : Thread nD τ) arg4 fullShare S.1 ∗ owns (c : Thread nD τ) arg5 fullShare S.2 : sProp 𝕄)
      ⊢ wp frame (wpE (defs₀ (F := F)) 𝒱₀ c none) Set.univ (initS arg4 arg5 p)
          fun _ => iprop(owns (c : Thread nD τ) arg4 fullShare p.1 ∗ owns (c : Thread nD τ) arg5 fullShare p.2) := by
  unfold initS
  simp only [Prog.lift, Prog.bind_op, Prog.bind_ret, cast_same]
  iintro ⟨H4, H5⟩
  iapply (wp_load_owns c arg4 _ _ _ S.1) $$ H4
  iintro H4
  iapply (wp_store_owns c arg4 _ _ _ _ _ S.1 p.1 (full_emb (F := F) (s := S16x256) (e := .f32) zero2 inb_S16x256_S16x256_0_0 p.1)) $$ H4
  iintro H4
  iapply (wp_load_owns c arg5 _ _ _ S.2) $$ H5
  iintro H5
  iapply (wp_store_owns c arg5 _ _ _ _ _ S.2 p.2 (full_emb (F := F) (s := S16x256) (e := .i32) zero2 inb_S16x256_S16x256_0_0 p.2)) $$ H5
  iintro H5
  iapply (le_wp_ret frame (wpE (defs₀ (F := F)) 𝒱₀ c none) Set.univ)
  isplitl [H4] <;> iassumption

/-- A later chunk's stores. -/
theorem wp_mergeS (c : Dev nD) (arg4 : Memref sig .tc .vmem S16x256 .f32) (arg5 : Memref sig .tc .vmem S16x256 .i32) (p S : Carry F) :
    iprop(owns (c : Thread nD τ) arg4 fullShare S.1 ∗ owns (c : Thread nD τ) arg5 fullShare S.2 : sProp 𝕄)
      ⊢ wp frame (wpE (defs₀ (F := F)) 𝒱₀ c none) Set.univ (mergeS arg4 arg5 p)
          fun _ => iprop(owns (c : Thread nD τ) arg4 fullShare (merge p S).1 ∗ owns (c : Thread nD τ) arg5 fullShare (merge p S).2) := by
  unfold mergeS
  simp only [Prog.lift, Prog.bind_op, Prog.bind_ret, cast_same]
  iintro ⟨H4, H5⟩
  iapply (wp_load_owns c arg4 _ _ _ S.1) $$ H4
  iintro H4
  iapply (wp_load_owns c arg4 _ _ _ S.1) $$ H4
  iintro H4
  rw [full_idx (F := F) (s := S16x256) (e := .f32) zero2 _ S.1]
  iapply (wp_store_owns c arg4 _ _ _ _ _ S.1 (merge p S).1 (full_emb (F := F) (s := S16x256) (e := .f32) zero2 inb_S16x256_S16x256_0_0 (merge p S).1)) $$ H4
  iintro H4
  iapply (wp_load_owns c arg5 _ _ _ S.2) $$ H5
  iintro H5
  iapply (wp_load_owns c arg5 _ _ _ S.2) $$ H5
  iintro H5
  rw [full_idx (F := F) (s := S16x256) (e := .i32) zero2 _ S.2]
  iapply (wp_store_owns c arg5 _ _ _ _ _ S.2 (merge p S).2 (full_emb (F := F) (s := S16x256) (e := .i32) zero2 inb_S16x256_S16x256_0_0 (merge p S).2)) $$ H5
  iintro H5
  iapply (le_wp_ret frame (wpE (defs₀ (F := F)) 𝒱₀ c none) Set.univ)
  isplitl [H4] <;> iassumption

/-- The last chunk's store. -/
theorem wp_emitS (c : Dev nD) (arg3 : Memref sig .tc .vmem S16x1 .i32) (arg4 : Memref sig .tc .vmem S16x256 .f32)
    (arg5 : Memref sig .tc .vmem S16x256 .i32) (Y : S16x1.Idx → Elt F .i32) (S : Carry F) :
    iprop(owns (c : Thread nD τ) arg3 fullShare Y ∗ owns (c : Thread nD τ) arg4 fullShare S.1 ∗ owns (c : Thread nD τ) arg5 fullShare S.2 : sProp 𝕄)
      ⊢ wp frame (wpE (defs₀ (F := F)) 𝒱₀ c none) Set.univ (emitS (F := F) arg3 arg4 arg5)
          fun _ => iprop(owns (c : Thread nD τ) arg3 fullShare (answer (F := F) S.1 S.2)
            ∗ owns (c : Thread nD τ) arg4 fullShare S.1 ∗ owns (c : Thread nD τ) arg5 fullShare S.2) := by
  unfold emitS
  simp only [Prog.lift, Prog.bind_op, Prog.bind_ret]
  iintro ⟨H3, H4, H5⟩
  iapply (wp_load_owns c arg4 _ _ _ S.1) $$ H4
  iintro H4
  iapply (wp_load_owns c arg5 _ _ _ S.2) $$ H5
  iintro H5
  rw [full_idx (F := F) (s := S16x256) (e := .f32) zero2 _ S.1, full_idx (F := F) (s := S16x256) (e := .i32) zero2 _ S.2]
  iapply (wp_load_owns c arg3 _ _ _ Y) $$ H3
  iintro H3
  iapply (wp_store_owns c arg3 _ _ _ _ _ Y (answer (F := F) S.1 S.2) (full_emb (F := F) (s := S16x1) (e := .i32) zero2 inb_S16x1_S16x1_0_0 (answer (F := F) S.1 S.2))) $$ H3
  iintro H3
  iapply (le_wp_ret frame (wpE (defs₀ (F := F)) 𝒱₀ c none) Set.univ)
  isplitl [H3]
  · iassumption
  isplitl [H4] <;> iassumption

/-- What the result's buffer holds after a point: the answer after a row block's last chunk, else what it held. -/
def outOf (i : grid0.Coords) (S : Carry F) (Y : S16x1.Idx → Elt F .i32) : S16x1.Idx → Elt F .i32 :=
  if (i 1).val = 9 then answer (F := F) S.1 S.2 else Y

/-- What follows a chunk's steps. -/
theorem wp_finish (c : Dev nD) (i : grid0.Coords) (arg3 : Memref sig .tc .vmem S16x1 .i32) (arg4 : Memref sig .tc .vmem S16x256 .f32)
    (arg5 : Memref sig .tc .vmem S16x256 .i32) (Y : S16x1.Idx → Elt F .i32) (p S : Carry F) :
    iprop(owns (c : Thread nD τ) arg3 fullShare Y ∗ owns (c : Thread nD τ) arg4 fullShare S.1 ∗ owns (c : Thread nD τ) arg5 fullShare S.2 : sProp 𝕄)
      ⊢ wp frame (wpE (defs₀ (F := F)) 𝒱₀ c none) Set.univ (finish i arg3 arg4 arg5 p)
          fun _ => iprop(owns (c : Thread nD τ) arg3 fullShare (outOf i (left i p S) Y)
            ∗ owns (c : Thread nD τ) arg4 fullShare (left i p S).1 ∗ owns (c : Thread nD τ) arg5 fullShare (left i p S).2) := by
  have hlast : ∀ T : Carry F,
      iprop(owns (c : Thread nD τ) arg3 fullShare Y ∗ owns (c : Thread nD τ) arg4 fullShare T.1 ∗ owns (c : Thread nD τ) arg5 fullShare T.2 : sProp 𝕄)
        ⊢ wp frame (wpE (defs₀ (F := F)) 𝒱₀ c none) Set.univ
            (if _h3 : k0_cond3 i = 1#1 then emitS (F := F) arg3 arg4 arg5 >>= fun _ => (pure ⟨⟩ : KProg F PUnit) else (pure ⟨⟩ : KProg F PUnit))
            fun _ => iprop(owns (c : Thread nD τ) arg3 fullShare (outOf i T Y)
              ∗ owns (c : Thread nD τ) arg4 fullShare T.1 ∗ owns (c : Thread nD τ) arg5 fullShare T.2) := by
    intro T
    by_cases h : (i 1).val = 9
    · rw [dif_pos ((isLast_iff i).mpr h), wp_bind]
      unfold outOf
      rw [if_pos h]
      iintro H
      iapply (wp_wand_r frame (wpE (defs₀ (F := F)) 𝒱₀ c none) Set.univ)
      isplitl [H]
      · iapply (wp_emitS c arg3 arg4 arg5 Y T); iexact H
      · iintro %_ H
        iapply (le_wp_ret frame (wpE (defs₀ (F := F)) 𝒱₀ c none) Set.univ)
        iexact H
    · rw [dif_neg (fun hh => h ((isLast_iff i).mp hh))]
      unfold outOf
      rw [if_neg h]
      iintro H
      iapply (le_wp_ret frame (wpE (defs₀ (F := F)) 𝒱₀ c none) Set.univ)
      iexact H
  unfold finish
  dsimp only
  by_cases h0 : (i 1).val = 0
  · rw [dif_pos ((isFirst_iff i).mpr h0), dif_neg (fun hh => (isLater_iff i).mp hh h0), wp_bind]
    unfold left
    rw [if_pos h0]
    iintro ⟨H3, H4, H5⟩
    iapply (wp_wand_r frame (wpE (defs₀ (F := F)) 𝒱₀ c none) Set.univ)
    isplitl [H4 H5]
    · iapply (wp_initS c arg4 arg5 p S)
      isplitl [H4] <;> iassumption
    · iintro %_ ⟨H4, H5⟩
      iapply (hlast p)
      isplitl [H3]
      · iassumption
      isplitl [H4] <;> iassumption
  · rw [dif_neg (fun hh => h0 ((isFirst_iff i).mp hh)), dif_pos ((isLater_iff i).mpr h0)]
    unfold left
    rw [if_neg h0]
    rw [wp_bind]
    iintro ⟨H3, H4, H5⟩
    iapply (wp_wand_r frame (wpE (defs₀ (F := F)) 𝒱₀ c none) Set.univ)
    isplitl [H4 H5]
    · iapply (wp_mergeS c arg4 arg5 p S)
      isplitl [H4] <;> iassumption
    · iintro %_ ⟨H4, H5⟩
      iapply (hlast (merge p S))
      isplitl [H3]
      · iassumption
      isplitl [H4] <;> iassumption

/-- The body's triple. -/
theorem wp_body (c : Dev nD) (i : grid0.Coords) (arg2 : Memref sig .tc .vmem S16x100352 .f32) (arg3 : Memref sig .tc .vmem S16x1 .i32)
    (arg4 : Memref sig .tc .vmem S16x256 .f32) (arg5 : Memref sig .tc .vmem S16x256 .i32) (X : Blk F) (Y : S16x1.Idx → Elt F .i32) (S : Carry F) :
    iprop(owns (c : Thread nD τ) arg2 fullShare X ∗ owns (c : Thread nD τ) arg3 fullShare Y
        ∗ owns (c : Thread nD τ) arg4 fullShare S.1 ∗ owns (c : Thread nD τ) arg5 fullShare S.2 : sProp 𝕄)
      ⊢ wp frame (wpE (defs₀ (F := F)) 𝒱₀ c none) Set.univ (body (F := F) i arg2 arg3 arg4 arg5)
          fun _ => iprop(owns (c : Thread nD τ) arg2 fullShare X ∗ owns (c : Thread nD τ) arg3 fullShare (outOf i (left i (chunk i X) S) Y)
            ∗ owns (c : Thread nD τ) arg4 fullShare (left i (chunk i X) S).1 ∗ owns (c : Thread nD τ) arg5 fullShare (left i (chunk i X) S).2) := by
  unfold body
  rw [wp_bind]
  iintro ⟨H2, H3, H4, H5⟩
  iapply (wp_wand_r frame (wpE (defs₀ (F := F)) 𝒱₀ c none) Set.univ)
  isplitl [H2]
  · iapply (wp_loopU c i arg2 X); iexact H2
  · iintro %p ⟨%hp, H2⟩
    rw [wp_bind]
    iapply (wp_wand_r frame (wpE (defs₀ (F := F)) 𝒱₀ c none) Set.univ)
    isplitl [H2]
    · iapply (wp_stepsM c i arg2 X 49 (Nat.le_refl _) p); iexact H2
    · iintro %q ⟨%hq, H2⟩
      subst hp
      have hc : q = chunk i X := hq
      subst hc
      iapply (wp_wand_r frame (wpE (defs₀ (F := F)) 𝒱₀ c none) Set.univ)
      isplitl [H3 H4 H5]
      · iapply (wp_finish c i arg3 arg4 arg5 Y (chunk i X) S)
        isplitl [H3]
        · iassumption
        isplitl [H4] <;> iassumption
      · iintro %_ H
        isplitl [H2] <;> iassumption

end Cert.KernelProof

end

end
-- ==== Proof.Run.lean ====
/- The run: what each staging buffer and the scratch buffers hold at every grid point, the body's obligation there, and
   the run of @main to the contents of the arrays after the last point. -/
module

public import proofs.«01_k».proof.Proof.Rules
public import proofs.«01_k».proof.Proof.Gen.KernelIdeal.Frame

@[expose] public section

set_option maxRecDepth 16384

noncomputable section

namespace Cert.KernelProof

open Cert.KernelIdeal Cert.KernelIdeal.Facts₀ Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The logits' block at point `t`: its part inside the array. -/
def xblk (c : Dev nD) (t : Fin cfg0.N) : (win0_0.xblock (grid0.coords t)).Idx → Elt F .f32 :=
  (win0_0.blk t).view.read (Elt F) (V m c main_arg0)

/-- The same filled out past the array's end with the zero word. -/
def xfull (c : Dev nD) (t : Fin cfg0.N) : Blk F :=
  win0_0.fill (grid0.coords t) (fun _ => FloatOps.ofBits .f32 0#32) (xblk m c t)

/-- What the scratch buffers hold after the first `n` points. -/
def accum (c : Dev nD) : ℕ → Carry F
  | 0 => carry0
  | n + 1 => if h : n < cfg0.N then left (grid0.coords ⟨n, h⟩) (chunk (grid0.coords ⟨n, h⟩) (xfull m c ⟨n, h⟩)) (accum c n) else accum c n

theorem accum_succ (c : Dev nD) (t : Fin cfg0.N) :
    accum m c (t.val + 1) = left (grid0.coords t) (chunk (grid0.coords t) (xfull m c t)) (accum m c t.val) := by
  show (if h : t.val < cfg0.N then _ else _) = _
  rw [dif_pos t.isLt]

/-- What the scratch buffers hold after `n` points, with the random-number register. -/
def Inv (c : Dev nD) (n : ℕ) : sProp 𝕄 :=
  iprop((∃ S : Carry F, ⌜n % 10 ≠ 0 → S = accum m c n⌝
      ∗ owns (c : Thread nD τ) (Memref.whole cc0_scratch0) fullShare S.1 ∗ owns (c : Thread nD τ) (Memref.whole cc0_scratch1) fullShare S.2)
    ∗ ∃ r, prngReg c r)

/-- The pipeline's proof data: the arrays as launched; the logits' buffer at the fetched block, the result's at the
    answer; between points, the scratch buffers at `accum` except where a row block begins. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => answer (F := F) (accum m c (t.val + 1)).1 (accum m c (t.val + 1)).2
  Φ t := Inv m c t.val
  q _ := fullShare
  owed _ := 0

/-- The chunk coordinate of a point. -/
theorem coord1 : ∀ t : Fin cfg0.N, (grid0.coords t 1).val = t.val % 10 := by decide +kernel
/-- The row-block coordinate of a point. -/
theorem coord0 : ∀ t : Fin cfg0.N, (grid0.coords t 0).val = t.val / 10 := by decide +kernel

theorem before_0 (c : Dev nD) (t : Fin cfg0.N) (d) :
    (dats m 0 c).before (0 : Fin 2) t d = win0_0.fill (grid0.coords t) d (xblk m c t) := by
  unfold Dat.before; rw [if_pos (fetch0_0 t)]; rfl

/-- The block's columns inside the array are those before column 1000000. -/
theorem xsize_0 : ∀ i : grid0.Coords, win0_0.xsize i 0 = 16 ∧ win0_0.xsize i 1 = min 100352 (1000000 - (i 1).val * 100352) := by
  decide +kernel

/-- Two fillings of one block agree inside the array. -/
theorem agree_fill (i : grid0.Coords) (d d' : Blk F) (x : (win0_0.xblock i).Idx → Elt F .f32) :
    Agree i (win0_0.fill i d x) (win0_0.fill i d' x) := by
  intro j hj
  have hm : win0_0.moved i j = true := (win0_0.moved_iff i j).mpr (fun a => by
    obtain ⟨h0, h1⟩ := xsize_0 i
    match a with
    | ⟨0, _⟩ => show (j 0).val < win0_0.xsize i 0; rw [h0]; exact (j 0).isLt
    | ⟨1, _⟩ =>
      show (j 1).val < win0_0.xsize i 1; rw [h1]
      have := (j 1).isLt
      have h2 : (j 1).val < 100352 := this
      omega)
  unfold Window.fill
  rw [dif_pos hm, dif_pos hm]

/-- The body's obligation at every point. -/
theorem body_obligation (c : Dev nD) : BodyObligationLoose (dats m 0 c) (defs₀ (F := F)) 𝒱₀ () Set.univ := fun t => by
  rw [bigSep_W0, bigSep_W0]
  have hi : (dats m 0 c).owesAt () t.succ = (dats m 0 c).owesAt () t.castSucc := rfl
  rw [hi]
  have hb : defs₀ (F := F) .tc cfg0.body (cfg0.bodyArgs t (cfg0.slots t))
      = body (grid0.coords t) (win0_0.stage (cfg0.slots t 0)) (win0_1.stage (cfg0.slots t 1)) (Memref.whole cc0_scratch0) (Memref.whole cc0_scratch1) := by
    show bodyAt0 t = _
    exact body_eq ..
  rw [hb]
  have h0 : (dats m 0 c).Φ t.castSucc = Inv m c t.val := rfl
  have h1 : (dats m 0 c).Φ t.succ = Inv m c (t.val + 1) := rfl
  rw [h0, h1]
  unfold Inv
  iintro ⟨⟨⟨%S, %hS, H4, H5⟩, Hp⟩, Ho, ⟨%d0, H0⟩, ⟨%d1, H1⟩⟩
  rw [before_0 m c t d0]
  iapply (wp_wand_r frame (wpE (defs₀ (F := F)) 𝒱₀ c none) Set.univ)
  isplitl [H0 H1 H4 H5]
  · iapply (wp_body c (grid0.coords t) _ _ _ _ (win0_0.fill (grid0.coords t) d0 (xblk m c t)) ((dats m 0 c).before (1 : Fin 2) t d1) S)
    isplitl [H0]; · iexact H0
    isplitl [H1]; · iexact H1
    isplitl [H4] <;> iassumption
  iintro %_ ⟨H0, H1, H4, H5⟩
  have hchunk : chunk (grid0.coords t) (win0_0.fill (grid0.coords t) d0 (xblk m c t)) = chunk (grid0.coords t) (xfull m c t) :=
    chunk_congr _ _ _ (agree_fill _ _ _ _)
  have hleft : left (grid0.coords t) (chunk (grid0.coords t) (win0_0.fill (grid0.coords t) d0 (xblk m c t))) S = accum m c (t.val + 1) := by
    rw [hchunk, accum_succ]
    by_cases h0 : t.val % 10 = 0
    · unfold left; rw [if_pos ((coord1 t).trans h0), if_pos ((coord1 t).trans h0)]
    · rw [hS h0]
  rw [hleft]
  isplitl [H4 H5 Hp]
  · isplitl [H4 H5]
    · iexists accum m c (t.val + 1)
      isplitr; · ipureintro; exact fun _ => rfl
      isplitl [H4] <;> iassumption
    · iexact Hp
  isplitl [Ho]; · iexact Ho
  isplitl [H0]
  · iexists d0
    change _ ⊢ owns (c : Thread nD τ) _ fullShare (win0_0.fill (grid0.coords t) d0 (win0_0.cut (grid0.coords t) (xfull m c t)))
    rw [show win0_0.cut (grid0.coords t) (xfull m c t) = xblk m c t from win0_0.cut_fill _ _ _]
    try iexact H0
  · by_cases h9 : t.val % 10 = 9
    · have hf : (cfg0.win 1).flush t = true := (flush0_1 t).mpr h9
      have hid : cfg0.idle 1 (cfg0.grid.coords t) = false := by
        show (!(k0_cond3 (grid0.coords t) == 1#1)) = false
        rw [(isLast_iff _).mpr ((coord1 t).trans h9)]; rfl
      rw [hid]
      unfold outOf
      rw [if_pos ((coord1 t).trans h9)]
      iexact H1
    · have hf : (cfg0.win 1).flush t = false := Bool.eq_false_iff.mpr fun h => h9 ((flush0_1 t).mp h)
      have hid : cfg0.idle 1 (cfg0.grid.coords t) = true := by
        show (!(k0_cond3 (grid0.coords t) == 1#1)) = true
        have : (k0_cond3 (grid0.coords t) == 1#1) = false := by
          rw [beq_eq_false_iff_ne]
          exact fun h => h9 ((coord1 t).symm.trans ((isLast_iff _).mp h))
        rw [this]; rfl
      rw [hid, hf]
      unfold outOf
      rw [if_neg (fun h => h9 ((coord1 t).symm.trans h))]
      iexists d1
      iexact H1

theorem hin (c : Dev nD) : Pipeline.ΦA spec0 c ⊢ (dats m 0 c).Φ 0 := by
  have h0 : (dats m 0 c).Φ 0 = Inv m c 0 := rfl
  rw [h0]
  unfold Pipeline.ΦA Inv
  rw [scopedRest0_eq]
  simp only [owns_whole]
  iintro ⟨⟨⟨%f, H4⟩, ⟨%g, H5⟩⟩, Hp⟩
  isplitl [H4 H5]
  · iexists (f, g)
    isplitr; · ipureintro; exact fun h => absurd rfl h
    isplitl [H4] <;> iassumption
  · iexact Hp

theorem hout (c : Dev nD) : (dats m 0 c).Φ (Fin.last cfg0.N) ⊢ Pipeline.ΦA spec0 c := by
  have h0 : (dats m 0 c).Φ (Fin.last cfg0.N) = Inv m c cfg0.N := rfl
  rw [h0]
  unfold Pipeline.ΦA Inv
  rw [scopedRest0_eq]
  simp only [owns_whole]
  iintro ⟨⟨%S, -, H4, H5⟩, Hp⟩
  isplitl [H4 H5]
  · isplitl [H4]
    · iexists S.1; iexact H4
    · iexists S.2; iexact H5
  · iexact Hp

set_option backward.isDefEq.respectTransparency.types false in
/-- Every execution of @main ends, with the pipeline's arrays as the proof data says, the rest as the lines after the
    region leave it, and every semaphore at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) 0 launch0 defs₀ 𝒱₀ m ρ main (body_obligation m)
    (fun c => (dats m 0 c).share_full fun _ => rfl) (fun _ _ => rfl) (V0 m) [hostOps1] sfx_sub sfx_fresh sfx_keeps (hmain m 𝒱₀)
    (fun _ _ => rfl) (hin m) (hout m) _ (fun _ h => h)

/-- The argument is left as launched and every semaphore at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => ((h.1 c).1 0).trans (((dats m 0 c).arrAt_in 0 rfl _).trans (V_main_arg0 m c)), h.2⟩)
    (run_main m ρ)

end Cert.KernelProof

end

end
-- ==== Proof.Frames.lean ====
/- The kernel's frames: its argument is left as launched and every semaphore ends at zero, over exact reals and over
   machine words alike. -/
module

public import proofs.«01_k».proof.Proof.Run
public import proofs.«01_k».proof.Proof.Gen.Kernel
public import proofs.«01_k».proof.Defs

@[expose] public section

set_option maxRecDepth 16384

noncomputable section

namespace Cert.KernelProof

open Idealize.ShloMosaic Idealize.ShloMosaic.TcCoe
open Idealize.SL.Sem

/-- The word kernel's frame, said of the one program both kernels are. -/
theorem quiescent_eq : Cert.quiescent_Kernel = ∀ (m : (ℓ : Loc Cert.KernelIdeal.nD Cert.KernelIdeal.τ Cert.KernelIdeal.sig) → Buf (Elt Bits) ℓ)
    (ρ : Dev Cert.KernelIdeal.nD → PrngReg), Cert.Pre_Kernel m →
      θ_run (Cert.KernelIdeal.defs (F := Bits)) (onTc (τ := Cert.KernelIdeal.τ) (Cert.KernelIdeal.main (F := Bits))) ⟨m, fun _ => 0, ρ⟩ (fun r =>
        (∀ c : Dev Cert.KernelIdeal.nD, r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) ∧ r.2.sem = fun _ => 0) := by
  sl_kernel_rfl

/-- The kernel over machine words leaves its argument alone and its semaphores at zero. -/
theorem quiescent_words : Cert.quiescent_Kernel := by
  rw [quiescent_eq]
  intro m ρ _
  exact run_frame m ρ

/-- The kernel over exact reals leaves its argument alone and its semaphores at zero. -/
theorem quiescent_reals : Cert.quiescent_KernelIdeal := by
  intro m ρ _
  exact run_frame m ρ

end Cert.KernelProof

end
-- ==== Proof.RefFrame.lean ====
/- The reference runs, leaves its argument as it was, and ends with every counter at zero. -/
module

public import proofs.«01_k».proof.Proof.Gen.ReferenceIdeal
public import proofs.«01_k».proof.Defs
public import Idealize.ShloMosaic.Lib.Claim
public import Idealize.ShloMosaic.Lib.Quiescent

@[expose] public section

set_option maxRecDepth 16384
set_option maxHeartbeats 4000000

noncomputable section

namespace Cert.RefProof

open Idealize.ShloMosaic Idealize.ShloMosaic.TcCoe
open Idealize.SL.Sem

/-- The reference runs from every memory, its argument ends unchanged and every counter ends at zero (the reference
    declares no semaphore at all). -/
theorem quiescent : Cert.quiescent_ReferenceIdeal := by
  intro m g hpre
  have hrun : θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) := by
    hlo_run
  exact θ_run_mono hrun fun r h => ⟨h, sem_eq_zero_of_no_sems (by decide) _⟩

end Cert.RefProof

end

end
-- ==== Proof.RefRun.lean ====
/- What the reference computes, written once as one function of the logits, and its run: the result ends at that
   function of the argument, which is left as it was. -/
module

public import proofs.«01_k».proof.Proof.Gen.ReferenceIdeal
public import proofs.«01_k».proof.Defs
public import Idealize.ShloMosaic.Lib.Claim
public import Idealize.ShloMosaic.Lib.Tactic

@[expose] public section

set_option maxRecDepth 16384
set_option maxHeartbeats 4000000

noncomputable section

namespace Cert.RefProof

open Cert.ReferenceIdeal Cert.ReferenceIdeal.Facts₀
open Idealize.ShloMosaic Idealize.ShloMosaic.TcCoe
open Idealize.SL.Sem

variable {F : FTy → Type} [FloatOps F] [Cert.ReferenceIdeal.Facts]

/-- One word for every element of the array. -/
def wide (x : IVec S_ 32) : IVec S64x1000000 32 := broadcastInDim S64x1000000 ![] bcast_S_S64x1000000 x

/-- One round of the generator: the second word rotated by `r` (`s = 32 - r`) and crossed with the first. -/
def rnd (r s : BitVec 32) (a b : IVec S64x1000000 32) : IVec S64x1000000 32 :=
  xori a (ori (Host.shli b (wide (constantI S_ 32 r))) (Host.shrui b (wide (constantI S_ 32 s))))

/-- Two words of the generator for every element. -/
abbrev Pair := IVec S64x1000000 32 × IVec S64x1000000 32

/-- The second word added to the first. -/
def start (p : Pair) : Pair := (addi p.1 p.2, p.2)

/-- Four rounds, with an addition between them, by the four rotations `r` (`s` the same counted to the right). -/
def mix (r s : Fin 4 → BitVec 32) (p : Pair) : Pair :=
  let b1 := rnd (r 0) (s 0) p.1 p.2
  let a1 := addi p.1 b1
  let b2 := rnd (r 1) (s 1) a1 b1
  let a2 := addi a1 b2
  let b3 := rnd (r 2) (s 2) a2 b2
  let a3 := addi a2 b3
  (a3, rnd (r 3) (s 3) a3 b3)

/-- The key's words and the number of the group added in. -/
def bump (ka kb : IVec S_ 32) (n : BitVec 32) (p : Pair) : Pair :=
  (addi p.1 (wide ka), addi (addi p.2 (wide kb)) (wide (constantI S_ 32 n)))

/-- The rotations of the groups of even and of odd number. -/
def mixA : Pair → Pair := mix ![13#32, 15#32, 26#32, 6#32] ![19#32, 17#32, 6#32, 26#32]
@[inherit_doc mixA]
def mixB : Pair → Pair := mix ![17#32, 29#32, 16#32, 24#32] ![15#32, 3#32, 16#32, 8#32]

/-- The key's third word. -/
def third (k0 k1 : IVec S_ 32) : IVec S_ 32 := xori (xori k0 k1) (constantI S_ 32 466688986#32)

/-- The generator's two words for the key `k0`, `k1` and the counters `x0`, `x1`. -/
def hash (k0 k1 : IVec S_ 32) (x0 x1 : IVec S64x1000000 32) : Pair :=
  let p0 := start (addi x0 (wide k0), addi x1 (wide k1))
  let p1 := start (bump k1 (third k0 k1) 1#32 (mixA p0))
  let p2 := start (bump (third k0 k1) k0 2#32 (mixB p1))
  let p3 := start (bump k0 k1 3#32 (mixA p2))
  let p4 := start (bump k1 (third k0 k1) 4#32 (mixB p3))
  bump (third k0 k1) k0 5#32 (mixA p4)

/-- The key: the seed 42 as two words, the high one and the low one. -/
def key : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

/-- The key's two words. -/
def key0 : IVec S_ 32 := shapeCast S_ (extractStridedSlice S1 ![0] key slices_S2_S1_0) shapeCasts_S1_S_
@[inherit_doc key0]
def key1 : IVec S_ 32 := shapeCast S_ (extractStridedSlice S1 ![1] key slices_S2_S1_1) shapeCasts_S1_S_

/-- The 64-bit counter of every element: its place in row-major order. -/
def place : IVec S64x1000000 64 :=
  addi (muli (broadcastInDim S64x1000000 ![] bcast_S_S64x1000000 (constantI S_ 64 1000000#64)) (iotaInDim S64x1000000 64 0))
    (muli (broadcastInDim S64x1000000 ![] bcast_S_S64x1000000 (constantI S_ 64 1#64)) (iotaInDim S64x1000000 64 1))

/-- The counters: the high and the low half of the place. -/
def placeHi : IVec S64x1000000 32 :=
  trunci 32 (Host.shrui place (broadcastInDim S64x1000000 ![] bcast_S_S64x1000000 (constantI S_ 64 32#64))) natLt_32_64
@[inherit_doc placeHi]
def placeLo : IVec S64x1000000 32 := trunci 32 place natLt_32_64

/-- One number for every element of the array. -/
def wideF (x : FVec F S_ .f32) : FVec F S64x1000000 .f32 := broadcastInDim S64x1000000 ![] bcast_S_S64x1000000 x

/-- The two ends of the interval drawn from, as the one-element arrays the program widens. -/
def endF (b : BitVec 32) : FVec F S1x1 .f32 := broadcastInDim S1x1 ![] bcast_S_S1x1 (constant S_ .f32 b)

/-- A one-element array's number for every element. -/
def wideE (x : FVec F S1x1 .f32) : FVec F S64x1000000 .f32 := broadcastInDim S64x1000000 ![0, 1] bcast_S1x1_S64x1000000_0_1 x

/-- The uniform draw of every element from the generator's two words. -/
def uniform (p : Pair) : FVec F S64x1000000 .f32 :=
  maximumf (wideE (endF 0x00000000#32))
    (addf (mulf (subf (bitcastToFloat .f32 (ori (Host.shrui (xori p.1 p.2) (wide (constantI S_ 32 9#32))) (wide (constantI S_ 32 1065353216#32))))
        (wideF (constant S_ .f32 0x3F800000#32)))
      (wideE (subf (endF 0x3F800000#32) (endF 0x00000000#32)))) (wideE (endF 0x00000000#32)))

/-- The score of every element: its Gumbel noise plus its logit. -/
def score (p : Pair) (lg : FVec F S64x1000000 .f32) : FVec F S64x1000000 .f32 :=
  addf (Host.negf (Host.log (Host.negf (Host.log (maximumf (uniform p) (wideF (constant S_ .f32 0x00800000#32))))))) lg

/-- Along every row the largest score with its place, the first of equals. -/
def largest (f : FVec F S64x1000000 .f32) : S64.Idx → F .f32 × BitVec 32 :=
  Host.argReduce (reducer_argmax_f32_i32 (F := F)) f (iotaInDim S64x1000000 32 1) (constant S_ .f32 0xFF800000#32)
    (constantI S_ 32 0#32) reducesTo_S64x1000000_S64_d1 h_S_

/-- The places alone. -/
def places (R : S64.Idx → F .f32 × BitVec 32) : IVec S64 32 := fun j => (R j).2

/-- The result: along every row the place of the largest score, the first of equals. -/
def result (f : FVec F S64x1000000 .f32) : IVec S64 32 := places (largest f)

theorem result_def (f : FVec F S64x1000000 .f32) : result f = places (largest f) := rfl

theorem places_apply (R : S64.Idx → F .f32 × BitVec 32) (j : S64.Idx) : places R j = (R j).2 := rfl

/-- The program's operations in order. -/
def opsP : {ops : List (HloOp τ sig (Elt Ideal)) // ∀ d, StableHlo.IsSeq (main (F := Ideal) d) ops} := by
  apply Subtype.mk
  hlo_seq

/-- `n` operations from the `i`-th on. -/
def seg (i n : Nat) : List (HloOp τ sig (Elt Ideal)) := (opsP.1.drop i).take n

variable (V : Valuation τ sig (Elt Ideal))

/-- The contents of a buffer. -/
abbrev rd (V : Valuation τ sig (Elt Ideal)) (r : Ref sig .tc) : r.ty.Contents (Elt Ideal) := V (Proc.devRef .tc r)

/-- The key's words, the ends of the interval and the logits, which the generator's operations leave alone. -/
structure Kept (V W : Valuation τ sig (Elt Ideal)) : Prop where
  k0 : rd W main_call0_v5 = rd V main_call0_v5
  k1 : rd W main_call0_v7 = rd V main_call0_v7
  k2 : rd W main_call0_call0_v1 = rd V main_call0_call0_v1
  lo : rd W main_call0_v2 = rd V main_call0_v2
  hi : rd W main_call0_v3 = rd V main_call0_v3
  lg : rd W main_arg0 = rd V main_arg0

theorem head_k0 : rd (StableHlo.after (seg 0 42) V) main_call0_v5 = key0 := by sl_kernel_rfl
theorem head_k1 : rd (StableHlo.after (seg 0 42) V) main_call0_v7 = key1 := by sl_kernel_rfl
theorem head_k2 : rd (StableHlo.after (seg 0 42) V) main_call0_call0_v1 = third key0 key1 := by sl_kernel_rfl
theorem head_lo : rd (StableHlo.after (seg 0 42) V) main_call0_v2 = endF (F := Ideal) 0x00000000#32 := by sl_kernel_rfl
theorem head_hi : rd (StableHlo.after (seg 0 42) V) main_call0_v3 = endF (F := Ideal) 0x3F800000#32 := by sl_kernel_rfl
theorem head_p : (rd (StableHlo.after (seg 0 42) V) main_call0_call0_v6, rd (StableHlo.after (seg 0 42) V) main_call0_call0_v5)
    = start (addi placeHi (wide key0), addi placeLo (wide key1)) := by refine Prod.ext ?_ ?_ <;> sl_kernel_rfl
/-! The generator's five groups of rounds: what each makes of the two words, and that it keeps the rest. -/

theorem group1 : (rd (StableHlo.after (seg 42 43) V) main_call0_call0_v40, rd (StableHlo.after (seg 42 43) V) main_call0_call0_v39)
    = start (bump (rd V main_call0_v7) (rd V main_call0_call0_v1) 1#32 (mixA (rd V main_call0_call0_v6, rd V main_call0_call0_v5))) := by refine Prod.ext ?_ ?_ <;> sl_kernel_rfl
theorem group1_kept : Kept V (StableHlo.after (seg 42 43) V) := by constructor <;> sl_kernel_rfl
theorem group2 : (rd (StableHlo.after (seg 85 43) V) main_call0_call0_v74, rd (StableHlo.after (seg 85 43) V) main_call0_call0_v73)
    = start (bump (rd V main_call0_call0_v1) (rd V main_call0_v5) 2#32 (mixB (rd V main_call0_call0_v40, rd V main_call0_call0_v39))) := by refine Prod.ext ?_ ?_ <;> sl_kernel_rfl
theorem group2_kept : Kept V (StableHlo.after (seg 85 43) V) := by constructor <;> sl_kernel_rfl
theorem group3 : (rd (StableHlo.after (seg 128 43) V) main_call0_call0_v108, rd (StableHlo.after (seg 128 43) V) main_call0_call0_v107)
    = start (bump (rd V main_call0_v5) (rd V main_call0_v7) 3#32 (mixA (rd V main_call0_call0_v74, rd V main_call0_call0_v73))) := by refine Prod.ext ?_ ?_ <;> sl_kernel_rfl
theorem group3_kept : Kept V (StableHlo.after (seg 128 43) V) := by constructor <;> sl_kernel_rfl
theorem group4 : (rd (StableHlo.after (seg 171 43) V) main_call0_call0_v142, rd (StableHlo.after (seg 171 43) V) main_call0_call0_v141)
    = start (bump (rd V main_call0_v7) (rd V main_call0_call0_v1) 4#32 (mixB (rd V main_call0_call0_v108, rd V main_call0_call0_v107))) := by refine Prod.ext ?_ ?_ <;> sl_kernel_rfl
theorem group4_kept : Kept V (StableHlo.after (seg 171 43) V) := by constructor <;> sl_kernel_rfl
theorem group5 : (rd (StableHlo.after (seg 214 42) V) main_call0_v19_0, rd (StableHlo.after (seg 214 42) V) main_call0_v19_1)
    = bump (rd V main_call0_call0_v1) (rd V main_call0_v5) 5#32 (mixA (rd V main_call0_call0_v142, rd V main_call0_call0_v141)) := by refine Prod.ext ?_ ?_ <;> sl_kernel_rfl
theorem group5_kept : Kept V (StableHlo.after (seg 214 42) V) := by constructor <;> sl_kernel_rfl

/-- The program's last operations: the draw, the scores and the arg-max. -/
theorem tail_result (hlo : rd V main_call0_v2 = endF (F := Ideal) 0x00000000#32) (hhi : rd V main_call0_v3 = endF (F := Ideal) 0x3F800000#32) :
    rd (StableHlo.after (seg 256 31) V) main_v15
      = result (F := Ideal) (score (rd V main_call0_v19_0, rd V main_call0_v19_1) (rd V main_arg0)) := by
  unfold score uniform
  rw [← hlo, ← hhi]
  sl_kernel_rfl

theorem head_lg : rd (StableHlo.after (seg 0 42) V) main_arg0 = rd V main_arg0 := by sl_kernel_rfl
theorem tail_lg : rd (StableHlo.after (seg 256 31) V) main_arg0 = rd V main_arg0 := by sl_kernel_rfl

/-- The program's operations, cut into its parts. -/
theorem ops_eq : opsP.1 = seg 0 42 ++ (seg 42 43 ++ (seg 85 43 ++ (seg 128 43 ++ (seg 171 43 ++ (seg 214 42 ++ seg 256 31))))) := by
  sl_kernel_rfl

theorem Kept.trans {U V W : Valuation τ sig (Elt Ideal)} (h : Kept U V) (h' : Kept V W) : Kept U W :=
  ⟨h'.k0.trans h.k0, h'.k1.trans h.k1, h'.k2.trans h.k2, h'.lo.trans h.lo, h'.hi.trans h.hi, h'.lg.trans h.lg⟩

/-- The generator's words of every element. -/
def words : Pair := hash key0 key1 placeHi placeLo

/-- What the whole program leaves: the arg-max of the scores, and the logits as they were. -/
theorem after_ops : rd (StableHlo.after opsP.1 V) main_v15 = result (F := Ideal) (score words (rd V main_arg0))
    ∧ rd (StableHlo.after opsP.1 V) main_arg0 = rd V main_arg0 := by
  rw [ops_eq]
  simp only [StableHlo.after_append]
  have e0 := head_k0 V
  have e1 := head_k1 V
  have e2 := head_k2 V
  have el := head_lo V
  have eh := head_hi V
  have ep := head_p V
  have eg := head_lg V
  generalize StableHlo.after (seg 0 42) V = V1 at *
  have p1 := group1 V1
  have k1 := group1_kept V1
  generalize StableHlo.after (seg 42 43) V1 = V2 at *
  have p2 := group2 V2
  have k2 := k1.trans (group2_kept V2)
  generalize StableHlo.after (seg 85 43) V2 = V3 at *
  have p3 := group3 V3
  have k3 := k2.trans (group3_kept V3)
  generalize StableHlo.after (seg 128 43) V3 = V4 at *
  have p4 := group4 V4
  have k4 := k3.trans (group4_kept V4)
  generalize StableHlo.after (seg 171 43) V4 = V5 at *
  have p5 := group5 V5
  have k5 := k4.trans (group5_kept V5)
  generalize StableHlo.after (seg 214 42) V5 = V6 at *
  rw [ep, e1, e2] at p1
  rw [p1, k1.k2, k1.k0, e2, e0] at p2
  rw [p2, k2.k0, k2.k1, e0, e1] at p3
  rw [p3, k3.k1, k3.k2, e1, e2] at p4
  rw [p4, k4.k2, k4.k0, e2, e0] at p5
  have ht := tail_result V6 (k5.lo.trans el) (k5.hi.trans eh)
  rw [p5, k5.lg, eg] at ht
  exact ⟨ht, (tail_lg V6).trans (k5.lg.trans eg)⟩

/-- Every operation determines what it writes. -/
theorem ops_fresh : ∀ op ∈ opsP.1, op.fresh = ∅ := by
  have h : opsP.1.map HloOp.fresh = List.replicate 287 ∅ := by sl_kernel_rfl
  intro op hop
  exact List.eq_of_mem_replicate (h ▸ List.mem_map_of_mem hop)

/-- The reference's run: its result is `result` of the argument, and the argument is unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v15) = result (F := Ideal) (score words (m ((c.tc : Thread nD τ).loc main_arg0)))
      ∧ r.2.mem ((c.tc : Thread nD τ).loc main_arg0) = m ((c.tc : Thread nD τ).loc main_arg0)) := by
  refine θ_run_mono (StableHlo.run_hlo (ops := opsP.1) _ _ opsP.2 (by decide) (by decide)
    (by unfold opsP; simp) ops_fresh _ _) fun r h c => ⟨?_, ?_⟩
  · exact (h c main_v15).trans (after_ops _).1
  · exact (h c main_arg0).trans (after_ops _).2

end Cert.RefProof

end

end
-- ==== Proof.Words.lean ====
/- One element's score as a function of its counter's word and its logit, over the extended reals, and the equality of
   the kernel's and the reference's score with it. -/
module

public import proofs.«01_k».proof.Proof.Chunk
public import proofs.«01_k».proof.Proof.RefRun
public import Idealize.ShloMosaic.Lib.KernelVsHost
public import Idealize.ShloMosaic.Lib.Pointwise.Index

@[expose] public section

set_option maxRecDepth 16384

noncomputable section

namespace Cert.Words

open Idealize.ShloMosaic Idealize.ShloMosaic.TcCoe

/-- One round on words. -/
def rnd (r s a b : BitVec 32) : BitVec 32 := IntOp.xori (IntOp.ori (IntOp.shli .vector b r) (IntOp.shrui .vector b s)) a

/-- Two words of the generator. -/
abbrev Two := BitVec 32 × BitVec 32

/-- The second word added to the first. -/
def start (p : Two) : Two := (IntOp.addi p.1 p.2, p.2)

/-- Four rounds with an addition between them. -/
def mix (r1 s1 r2 s2 r3 s3 r4 s4 : BitVec 32) (p : Two) : Two :=
  let b1 := rnd r1 s1 p.1 p.2
  let a1 := IntOp.addi p.1 b1
  let b2 := rnd r2 s2 a1 b1
  let a2 := IntOp.addi a1 b2
  let b3 := rnd r3 s3 a2 b2
  let a3 := IntOp.addi a2 b3
  (a3, rnd r4 s4 a3 b3)

/-- The groups of even and of odd number. -/
def mixA : Two → Two := mix 13#32 19#32 15#32 17#32 26#32 6#32 6#32 26#32
@[inherit_doc mixA]
def mixB : Two → Two := mix 17#32 15#32 29#32 3#32 16#32 16#32 24#32 8#32

/-- Words added to the pair. -/
def bump (ka kb : BitVec 32) (p : Two) : Two := (IntOp.addi p.1 ka, IntOp.addi p.2 kb)

/-- A word added to the pair's second word. -/
def bump2 (kb : BitVec 32) (p : Two) : Two := (p.1, IntOp.addi p.2 kb)

/-- The two words crossed into one, after the last words added. -/
def end1 (p : Two) : BitVec 32 := IntOp.xori (IntOp.addi p.1 466689008#32) (IntOp.addi p.2 5#32)
/-- What the generator makes of the pair before its last group, before the words added there, and so on backwards. -/
def end2 (p : Two) : BitVec 32 := end1 (mixA p)
@[inherit_doc end2]
def end3 (p : Two) : BitVec 32 := end2 (start (bump 42#32 (Scalar.addi 466689008#32 4#32) p))
@[inherit_doc end2]
def end4 (p : Two) : BitVec 32 := end3 (mixB p)
@[inherit_doc end2]
def end5 (p : Two) : BitVec 32 := end4 (start (bump2 (Scalar.addi 42#32 3#32) p))
@[inherit_doc end2]
def end6 (p : Two) : BitVec 32 := end5 (mixA p)
@[inherit_doc end2]
def end7 (p : Two) : BitVec 32 := end6 (start (bump 466689008#32 2#32 p))
@[inherit_doc end2]
def end8 (p : Two) : BitVec 32 := end7 (mixB p)
@[inherit_doc end2]
def end9 (p : Two) : BitVec 32 := end8 (start (bump 42#32 (Scalar.addi 466689008#32 1#32) p))
@[inherit_doc end2]
def end10 (p : Two) : BitVec 32 := end9 (mixA p)

/-- The generator's word for the key 0, 42 at the counter 0, `x - 42`. -/
def gen (x : BitVec 32) : BitVec 32 := end10 (x, x)

/-- The uniform draw of a word, at least the smallest normal number: the number in [1, 2) whose fraction is the word's
    upper bits, less one. -/
def draw (w : BitVec 32) : Ideal .f32 :=
  FloatOps.maximumf (FloatOps.subf (FloatOps.ofBits (F := Ideal) .f32 (IntOp.ori (IntOp.shrui .vector w 9#32) 1065353216#32))
    (FloatOps.ofBits .f32 0x3F800000#32)) (FloatOps.ofBits .f32 0x00800000#32)

/-- The score: the logit plus the Gumbel noise of a word. -/
def score (w : BitVec 32) (l : Ideal .f32) : Ideal .f32 :=
  FloatOps.subf l (FloatOps.log (FloatOps.subf (FloatOps.ofBits .f32 0x00000000#32) (FloatOps.log (draw w))))

theorem zero_bits : Ideal.ofBits .f32 0x00000000#32 = 0 := by simp [Ideal.ofBits, Ideal.ieee]
theorem one_bits : Ideal.ofBits .f32 0x3F800000#32 = 1 := by
  simp [Ideal.ofBits, Ideal.ieee, -EReal.coe_mul]; norm_num
theorem bot_bits : Ideal.ofBits .f32 0xFF800000#32 = ⊥ := by simp [Ideal.ofBits, Ideal.ieee]
theorem tiny_nonneg : 0 ≤ Ideal.ofBits .f32 0x00800000#32 := by
  simp [Ideal.ofBits, Ideal.ieee, -EReal.coe_mul]

section kernel
open Cert.KernelIdeal Cert.KernelIdeal.Facts₀
open Cert.KernelProof (bitsOf scoreOf)
variable [Cert.KernelIdeal.Facts]

/-- Four of the kernel's rounds on the words of a slice, and what is made of their result. -/
def four (r1 s1 r2 s2 r3 s3 r4 s4 : BitVec 32) (p b : IVec S16x256 32)
    (k : IVec S16x256 32 → IVec S16x256 32 → IVec S16x256 32) : IVec S16x256 32 :=
  let b1 := KernelProof.rnd r1 s1 p b
  let a1 := addi p b1
  let b2 := KernelProof.rnd r2 s2 a1 b1
  let a2 := addi a1 b2
  let b3 := KernelProof.rnd r3 s3 a2 b2
  let a3 := addi a2 b3
  let b4 := KernelProof.rnd r4 s4 a3 b3
  k a3 b4

/-- Words added to both, the second then to the first, and what is made of the result. -/
def inject (ka kb : BitVec 32) (a b : IVec S16x256 32) (k : IVec S16x256 32 → IVec S16x256 32 → IVec S16x256 32) : IVec S16x256 32 :=
  let c := addi a (broadcast S16x256 ka)
  let d := addi b (broadcast S16x256 kb)
  let e := addi c d
  k e d

/-- The same with a word added to the second only. -/
def inject2 (kb : BitVec 32) (a b : IVec S16x256 32) (k : IVec S16x256 32 → IVec S16x256 32 → IVec S16x256 32) : IVec S16x256 32 :=
  let d := addi b (broadcast S16x256 kb)
  let e := addi a d
  k e d

theorem four_apply (r1 s1 r2 s2 r3 s3 r4 s4 : BitVec 32) (p b : IVec S16x256 32) (k : IVec S16x256 32 → IVec S16x256 32 → IVec S16x256 32)
    (e : S16x256.Idx) (K : Two → BitVec 32) (hk : ∀ a b, k a b e = K (a e, b e)) :
    four r1 s1 r2 s2 r3 s3 r4 s4 p b k e = K (mix r1 s1 r2 s2 r3 s3 r4 s4 (p e, b e)) := hk _ _

theorem inject_apply (ka kb : BitVec 32) (p b : IVec S16x256 32) (k : IVec S16x256 32 → IVec S16x256 32 → IVec S16x256 32)
    (e : S16x256.Idx) (K : Two → BitVec 32) (hk : ∀ a b, k a b e = K (a e, b e)) :
    inject ka kb p b k e = K (start (bump ka kb (p e, b e))) := hk _ _

theorem inject2_apply (kb : BitVec 32) (p b : IVec S16x256 32) (k : IVec S16x256 32 → IVec S16x256 32 → IVec S16x256 32)
    (e : S16x256.Idx) (K : Two → BitVec 32) (hk : ∀ a b, k a b e = K (a e, b e)) :
    inject2 kb p b k e = K (start (bump2 kb (p e, b e))) := hk _ _

/-- The kernel's program from its last group backwards. -/
def tail1 (a b : IVec S16x256 32) : IVec S16x256 32 := xori (addi a (broadcast S16x256 466689008#32)) (addi b (broadcast S16x256 5#32))
@[inherit_doc tail1]
def tail2 (a b : IVec S16x256 32) : IVec S16x256 32 := four 13#32 19#32 15#32 17#32 26#32 6#32 6#32 26#32 a b tail1
@[inherit_doc tail1]
def tail3 (a b : IVec S16x256 32) : IVec S16x256 32 := inject 42#32 (Scalar.addi 466689008#32 4#32) a b tail2
@[inherit_doc tail1]
def tail4 (a b : IVec S16x256 32) : IVec S16x256 32 := four 17#32 15#32 29#32 3#32 16#32 16#32 24#32 8#32 a b tail3
@[inherit_doc tail1]
def tail5 (a b : IVec S16x256 32) : IVec S16x256 32 := inject2 (Scalar.addi 42#32 3#32) a b tail4
@[inherit_doc tail1]
def tail6 (a b : IVec S16x256 32) : IVec S16x256 32 := four 13#32 19#32 15#32 17#32 26#32 6#32 6#32 26#32 a b tail5
@[inherit_doc tail1]
def tail7 (a b : IVec S16x256 32) : IVec S16x256 32 := inject 466689008#32 2#32 a b tail6
@[inherit_doc tail1]
def tail8 (a b : IVec S16x256 32) : IVec S16x256 32 := four 17#32 15#32 29#32 3#32 16#32 16#32 24#32 8#32 a b tail7
@[inherit_doc tail1]
def tail9 (a b : IVec S16x256 32) : IVec S16x256 32 := inject 42#32 (Scalar.addi 466689008#32 1#32) a b tail8
@[inherit_doc tail1]
def tail10 (a b : IVec S16x256 32) : IVec S16x256 32 := four 13#32 19#32 15#32 17#32 26#32 6#32 6#32 26#32 a b tail9

theorem bitsOf_eq (x : IVec S16x256 32) : bitsOf x = tail10 x x := by sl_kernel_rfl

/-- The kernel's words are the generator's. -/
theorem tail10_apply (e : S16x256.Idx) (a b : IVec S16x256 32) : tail10 a b e = end10 (a e, b e) := by
  have h1 : ∀ a b, tail1 a b e = end1 (a e, b e) := fun a b => rfl
  have h2 : ∀ a b, tail2 a b e = end2 (a e, b e) := fun a b => four_apply _ _ _ _ _ _ _ _ a b tail1 e end1 h1
  have h3 : ∀ a b, tail3 a b e = end3 (a e, b e) := fun a b => inject_apply _ _ a b tail2 e end2 h2
  have h4 : ∀ a b, tail4 a b e = end4 (a e, b e) := fun a b => four_apply _ _ _ _ _ _ _ _ a b tail3 e end3 h3
  have h5 : ∀ a b, tail5 a b e = end5 (a e, b e) := fun a b => inject2_apply _ a b tail4 e end4 h4
  have h6 : ∀ a b, tail6 a b e = end6 (a e, b e) := fun a b => four_apply _ _ _ _ _ _ _ _ a b tail5 e end5 h5
  have h7 : ∀ a b, tail7 a b e = end7 (a e, b e) := fun a b => inject_apply _ _ a b tail6 e end6 h6
  have h8 : ∀ a b, tail8 a b e = end8 (a e, b e) := fun a b => four_apply _ _ _ _ _ _ _ _ a b tail7 e end7 h7
  have h9 : ∀ a b, tail9 a b e = end9 (a e, b e) := fun a b => inject_apply _ _ a b tail8 e end8 h8
  exact four_apply _ _ _ _ _ _ _ _ a b tail9 e end9 h9

@[inherit_doc tail10_apply]
theorem bits_apply (x : IVec S16x256 32) (e : S16x256.Idx) : bitsOf x e = gen (x e) :=
  (congrFun (bitsOf_eq x) e).trans (tail10_apply e x x)

/-- The kernel's score from its words. -/
def scoreWith (B : IVec S16x256 32) (lg : FVec Ideal S16x256 .f32) : FVec Ideal S16x256 .f32 :=
  subf lg (log (subf (broadcast S16x256 (Scalar.ofBits .f32 0x00000000#32))
    (log (maximumf
      (subf (bitcastToFloat .f32 (ori (shrui B (broadcast S16x256 9#32)) (broadcast S16x256 1065353216#32)))
        (broadcast S16x256 (Scalar.ofBits .f32 0x3F800000#32)))
      (broadcast S16x256 (Scalar.ofBits .f32 0x00800000#32))))))

theorem scoreOf_with (x : IVec S16x256 32) (lg : FVec Ideal S16x256 .f32) : scoreOf x lg = scoreWith (bitsOf x) lg := by
  sl_kernel_rfl

theorem scoreWith_apply (B : IVec S16x256 32) (lg : FVec Ideal S16x256 .f32) (e : S16x256.Idx) :
    scoreWith B lg e = score (B e) (lg e) := by
  sl_kernel_rfl

theorem scoreOf_words (x : IVec S16x256 32) (lg : FVec Ideal S16x256 .f32) (e : S16x256.Idx) :
    scoreOf x lg e = score (bitsOf x e) (lg e) := by
  rw [scoreOf_with, scoreWith_apply]

/-- The kernel's score. -/
theorem scoreOf_apply (x : IVec S16x256 32) (lg : FVec Ideal S16x256 .f32) (e : S16x256.Idx) :
    scoreOf x lg e = score (gen (x e)) (lg e) :=
  (scoreOf_words x lg e).trans (congrArg (fun w => score w (lg e)) (bits_apply x e))

end kernel

end Cert.Words

end

end
-- ==== Proof.Pick.lean ====
/- The first of the largest values of a sequence, as a running pair (largest value so far, the number it was first met
   at): by segments, by lanes of 256, and as the one place that is a largest value and the first such. -/
module

public import Mathlib.Data.EReal.Basic
public import Mathlib.Data.Finset.Fold

@[expose] public section

namespace Cert.Pick

/-- The running pair over the `n` values from number `a` on, started at minus infinity. -/
noncomputable def runFrom (v : ℕ → EReal) (a : ℕ) : ℕ → EReal × ℕ
  | 0 => (⊥, 0)
  | n + 1 => if (runFrom v a n).1 < v (a + n) then (v (a + n), a + n) else runFrom v a n

/-- The running pair over the first `n` values. -/
noncomputable def best (v : ℕ → EReal) : ℕ → EReal × ℕ
  | 0 => (⊥, 0)
  | n + 1 => if (best v n).1 < v n then (v n, n) else best v n

theorem best_of_lt (v : ℕ → EReal) (n : ℕ) (h : (best v n).1 < v n) : best v (n + 1) = (v n, n) := if_pos h
theorem best_of_not_lt (v : ℕ → EReal) (n : ℕ) (h : ¬ (best v n).1 < v n) : best v (n + 1) = best v n := if_neg h

/-- A segment's pair met with an earlier one. -/
noncomputable def meet (p s : EReal × ℕ) : EReal × ℕ := if s.1 < p.1 then p else s

theorem runFrom_zero (v : ℕ → EReal) (n : ℕ) : runFrom v 0 n = best v n := by
  induction n with
  | zero => rfl
  | succ n ih => simp only [runFrom, best, ih, Nat.zero_add]

/-- A sequence's pair is its last segment's met with that of what came before. -/
theorem best_add (v : ℕ → EReal) (a n : ℕ) : best v (a + n) = meet (runFrom v a n) (best v a) := by
  induction n with
  | zero => simp [runFrom, meet]
  | succ n ih =>
    rw [← Nat.add_assoc]
    simp only [best, runFrom, ih]
    generalize runFrom v a n = R
    generalize best v a = s
    generalize v (a + n) = x
    unfold meet
    by_cases h1 : R.1 < x
    · rw [if_pos h1]
      by_cases h2 : s.1 < R.1
      · rw [if_pos h2, if_pos h1, if_pos (h2.trans h1)]
      · rw [if_neg h2]
    · rw [if_neg h1]
      by_cases h2 : s.1 < R.1
      · rw [if_pos h2, if_neg h1]
      · rw [if_neg h2, if_neg (not_lt.mpr ((not_lt.mp h1).trans (not_lt.mp h2)))]

/-- `J` is the first place of a largest value among the first `N`. -/
structure IsFirst (v : ℕ → EReal) (N J : ℕ) : Prop where
  lt : J < N
  le : ∀ n < N, v n ≤ v J
  before : ∀ n < J, v n < v J

theorem IsFirst.unique {v : ℕ → EReal} {N J K : ℕ} (h : IsFirst v N J) (h' : IsFirst v N K) : J = K := by
  rcases lt_trichotomy J K with hlt | heq | hlt
  · exact absurd (h'.before J hlt) (not_lt.mpr (h.le K h'.lt))
  · exact heq
  · exact absurd (h.before K hlt) (not_lt.mpr (h'.le J h.lt))

/-- The running pair's number is the first place of a largest value, and its value is the value there. -/
theorem best_spec (v : ℕ → EReal) (n : ℕ) : IsFirst v (n + 1) (best v (n + 1)).2 ∧ v (best v (n + 1)).2 = (best v (n + 1)).1 := by
  induction n with
  | zero =>
    have h2 : (best v (0 + 1)).2 = 0 := by
      by_cases h : ⊥ < v 0
      · rw [best_of_lt v 0 h]
      · rw [best_of_not_lt v 0 h]; rfl
    have h1 : v 0 = (best v (0 + 1)).1 := by
      by_cases h : ⊥ < v 0
      · rw [best_of_lt v 0 h]
      · rw [best_of_not_lt v 0 h]; exact le_bot_iff.mp (not_lt.mp h)
    rw [h2]
    refine ⟨⟨by omega, fun m hm => ?_, fun m hm => by omega⟩, h1⟩
    have : m = 0 := by omega
    rw [this]
  | succ n ih =>
    obtain ⟨⟨hlt, hle, hb⟩, hv⟩ := ih
    have hs : best v (n + 1 + 1) = if (best v (n + 1)).1 < v (n + 1) then (v (n + 1), n + 1) else best v (n + 1) := rfl
    rw [hs]
    generalize best v (n + 1) = b at *
    by_cases h : b.1 < v (n + 1)
    · rw [if_pos h]
      refine ⟨⟨by simp, fun m hm => ?_, fun m hm => ?_⟩, rfl⟩
      · rcases Nat.lt_succ_iff_lt_or_eq.mp hm with hm' | rfl
        · exact (hle m hm').trans (hv ▸ h.le)
        · exact le_refl _
      · exact (hle m hm).trans_lt (hv ▸ h)
    · rw [if_neg h]
      refine ⟨⟨by omega, fun m hm => ?_, hb⟩, hv⟩
      rcases Nat.lt_succ_iff_lt_or_eq.mp hm with hm' | rfl
      · exact hle m hm'
      · rw [hv]; exact not_lt.mp h

/-- Lane `l` of a row of `N` values: every 256th value from the `l`-th on, minus infinity past the row's end. -/
noncomputable def lane (f : ℕ → EReal) (N l n : ℕ) : EReal := if 256 * n + l < N then f (256 * n + l) else ⊥

theorem lane_of_lt (f : ℕ → EReal) (N l n : ℕ) (h : 256 * n + l < N) : lane f N l n = f (256 * n + l) := if_pos h

/-- The answer from the lanes: among the lanes whose pair holds the largest value of all, the smallest place is the
    first place of a largest value of the row. -/
theorem lanes_first (f : ℕ → EReal) (N K J : ℕ) (hN : N ≤ 256 * (K + 1)) (hJ : IsFirst f N J) (M : EReal) (A : ℕ)
    (hM : ∀ l < 256, (best (lane f N l) (K + 1)).1 ≤ M) (hM' : ∃ l < 256, (best (lane f N l) (K + 1)).1 = M)
    (hA : ∀ l < 256, (best (lane f N l) (K + 1)).1 = M → A ≤ 256 * (best (lane f N l) (K + 1)).2 + l)
    (hA' : ∃ l < 256, (best (lane f N l) (K + 1)).1 = M ∧ A = 256 * (best (lane f N l) (K + 1)).2 + l) : A = J := by
  have hval : ∀ l < 256, ∀ n, lane f N l n ≤ f J := fun l hl n => by
    unfold lane
    split
    · exact hJ.le _ ‹_›
    · exact bot_le
  have hup : ∀ l < 256, (best (lane f N l) (K + 1)).1 ≤ f J := fun l hl => by
    rw [← (best_spec (lane f N l) K).2]; exact hval l hl _
  -- the lane that holds place `J`
  obtain ⟨hs, hv⟩ := best_spec (lane f N (J % 256)) K
  have hlJ : J % 256 < 256 := Nat.mod_lt _ (by norm_num)
  have hcol : 256 * (J / 256) + J % 256 = J := Nat.div_add_mod J 256
  have hlt := hJ.lt
  have hJK : J / 256 < K + 1 := by omega
  have hlane : lane f N (J % 256) (J / 256) = f J := by
    rw [lane_of_lt f N _ _ (by omega), hcol]
  have hbl : (best (lane f N (J % 256)) (K + 1)).1 = f J :=
    le_antisymm (hup _ hlJ) (by rw [← hlane, ← hv]; exact hs.le _ hJK)
  have hMJ : M = f J := by
    obtain ⟨l, hl, he⟩ := hM'
    exact le_antisymm (he ▸ hup l hl) (hbl ▸ hM _ hlJ)
  -- its number there
  have hnum : 256 * (best (lane f N (J % 256)) (K + 1)).2 + J % 256 ≤ J := by
    have : (best (lane f N (J % 256)) (K + 1)).2 ≤ J / 256 := by
      by_contra hgt
      have := hs.before (J / 256) (not_le.mp hgt)
      rw [hv, hbl, hlane] at this
      exact lt_irrefl _ this
    omega
  have hle : A ≤ J := (hA _ hlJ (hbl.trans hMJ.symm)).trans hnum
  -- and no earlier place
  obtain ⟨l, hl, he, hAe⟩ := hA'
  by_contra hne
  have hAlt : A < J := lt_of_le_of_ne hle hne
  have hv' := (best_spec (lane f N l) K).2
  rw [he, hMJ] at hv'
  rw [lane_of_lt f N _ _ (by omega), ← hAe] at hv'
  exact lt_irrefl _ (hv' ▸ hJ.before A hAlt)

end Cert.Pick

end
-- ==== Proof.Lanes.lean ====
/- What every lane of the kernel's scratch buffers holds after a point, over the extended reals: the running pair of its
   share of the row's scores, where the row's scores are the reference's. -/
module

public import proofs.«01_k».proof.Proof.Words
public import proofs.«01_k».proof.Proof.Pick

@[expose] public section

set_option maxRecDepth 16384

noncomputable section

namespace Cert.KernelProof

open Cert.KernelIdeal Cert.KernelIdeal.Facts₀
open Idealize.ShloMosaic Idealize.ShloMosaic.TcCoe
open Cert.Pick

variable [Cert.KernelIdeal.Facts]

/-- The counter's word of a lane at step `n`, plus 42: its place in the whole array. -/
theorem counter_apply (i : grid0.Coords) (n : ℕ) (x : S16x256.Idx) :
    addi (ctr0 i) (broadcast S16x256 (Scalar.addi (Scalar.muli (BitVec.ofNat 32 (i 1).val) 100352#32) (Scalar.muli (BitVec.ofNat 32 n) 256#32))) x
      = BitVec.ofNat 32 ((16 * (i 0).val + (x 0).val) * 1000000 + ((i 1).val * 100352 + (256 * n + (x 1).val))) + 42#32 := by
  have h : addi (ctr0 i) (broadcast S16x256 (Scalar.addi (Scalar.muli (BitVec.ofNat 32 (i 1).val) 100352#32) (Scalar.muli (BitVec.ofNat 32 n) 256#32))) x
      = ((BitVec.ofNat 32 (i 0).val * BitVec.ofNat 32 16) * BitVec.ofNat 32 1000000
          + (iota .tc S16x256 32 [0] iota_S16x256_d0_w32 x * BitVec.ofNat 32 1000000 + BitVec.ofNat 32 42)
          + iota .tc S16x256 32 [1] iota_S16x256_d1_w32 x)
        + (BitVec.ofNat 32 (i 1).val * BitVec.ofNat 32 100352 + BitVec.ofNat 32 n * BitVec.ofNat 32 256) := rfl
  rw [h, row_apply, lane_apply]
  simp only [← BitVec.ofNat_add, ← BitVec.ofNat_mul]
  refine congrArg (BitVec.ofNat 32) ?_
  omega

/-- A step's score at a lane. -/
theorem stepScore_apply (i : grid0.Coords) (n : ℕ) (lg : FVec Ideal S16x256 .f32) (x : S16x256.Idx) :
    stepScore i (BitVec.ofNat 32 n) lg x
      = Words.score (Words.gen (BitVec.ofNat 32 ((16 * (i 0).val + (x 0).val) * 1000000 + ((i 1).val * 100352 + (256 * n + (x 1).val))) + 42#32)) (lg x) := by
  unfold stepScore
  rw [Words.scoreOf_apply, counter_apply]

/-- A lane of the carried pair holds a running pair. -/
structure Holds (p : Carry Ideal) (x : S16x256.Idx) (b : EReal × ℕ) : Prop where
  val : p.1 x = b.1
  num : p.2 x = BitVec.ofNat 32 b.2

/-- The choice a comparison makes. -/
theorem select_gt {α : Type} (s p : EReal) (a b : α) :
    Scalar.select (FloatOps.cmpf (F := Ideal) (φ := .f32) .ogt s p) a b = if p < s then a else b := by
  have h : FloatOps.cmpf (F := Ideal) (φ := .f32) .ogt s p = BitVec.ofBool (decide (p < s)) := rfl
  rw [h]
  by_cases hp : p < s
  · rw [decide_eq_true hp, if_pos hp]; rfl
  · rw [decide_eq_false hp, if_neg hp]; rfl

theorem Holds.upd {p : Carry Ideal} {x : S16x256.Idx} {b : EReal × ℕ} (h : Holds p x b) (s : FVec Ideal S16x256 .f32) (n : ℕ) :
    Holds (upd s (BitVec.ofNat 32 n) p) x (if b.1 < s x then (s x, n) else b) := by
  have h1 : (KernelProof.upd s (BitVec.ofNat 32 n) p).1 x = if p.1 x < s x then s x else p.1 x := select_gt _ _ _ _
  have h2 : (KernelProof.upd s (BitVec.ofNat 32 n) p).2 x = if p.1 x < s x then BitVec.ofNat 32 n else p.2 x := select_gt _ _ _ _
  rw [h.val] at h1 h2
  rw [h.num] at h2
  constructor
  · rw [h1]; split <;> rfl
  · rw [h2]; split <;> rfl

theorem Holds.merge {p s : Carry Ideal} {x : S16x256.Idx} {b a : EReal × ℕ} (h : Holds p x b) (h' : Holds s x a) :
    Holds (merge p s) x (meet b a) := by
  have h1 : (KernelProof.merge p s).1 x = if s.1 x < p.1 x then p.1 x else s.1 x := select_gt _ _ _ _
  have h2 : (KernelProof.merge p s).2 x = if s.1 x < p.1 x then p.2 x else s.2 x := select_gt _ _ _ _
  rw [h.val, h'.val] at h1 h2
  rw [h.num, h'.num] at h2
  unfold meet
  constructor
  · rw [h1]; split <;> rfl
  · rw [h2]; split <;> rfl

theorem Holds.start (x : S16x256.Idx) : Holds (carry0 (F := Ideal)) x (⊥, 0) := ⟨Words.bot_bits, rfl⟩

/-- The step's number over the whole row. -/
theorem stepNo_eq (i : grid0.Coords) (n : ℕ) : stepNo i (BitVec.ofNat 32 n) = BitVec.ofNat 32 (392 * (i 1).val + n) := by
  have h : stepNo i (BitVec.ofNat 32 n) = BitVec.ofNat 32 (i 1).val * BitVec.ofNat 32 392 + BitVec.ofNat 32 n := rfl
  rw [h, ← BitVec.ofNat_mul, ← BitVec.ofNat_add, Nat.mul_comm]

theorem iv_eq (k : ℕ) : Scf.iv 0#32 1#32 k = BitVec.ofNat 32 k := by
  unfold Scf.iv
  rw [BitVec.mul_one, BitVec.zero_add]

section block

/-- The block `X` holds, in its columns inside the array, logits with which the scores of row `x 0` are `f`. -/
def Scores (i : grid0.Coords) (X : Blk Ideal) (x0 : Fin 16) (f : ℕ → EReal) : Prop :=
  ∀ (y : S16x100352.Idx), (y 0).val = x0.val → (i 1).val * 100352 + (y 1).val < 1000000 →
    Words.score (Words.gen (BitVec.ofNat 32 ((16 * (i 0).val + x0.val) * 1000000 + ((i 1).val * 100352 + (y 1).val)) + 42#32)) (X y)
      = f ((i 1).val * 100352 + (y 1).val)

variable (i : grid0.Coords) (X : Blk Ideal) (x : S16x256.Idx) (f : ℕ → EReal) (h : Scores i X (x 0) f)
include h

/-- The counted loop's steps. -/
theorem scoreU (t : Fin k0_t1_loop.trips) :
    stepScore i (Scf.iv 0#32 1#32 t) (sliceU X t) x = lane f 1000000 (x 1).val (392 * (i 1).val + t.val) := by
  have h10 : (i 1).val < 10 := (i 1).isLt
  have h256 : (x 1).val < 256 := (x 1).isLt
  have ht : t.val < 343 := trips_eq ▸ t.isLt
  rw [iv_eq, stepScore_apply, lane_of_lt _ _ _ _ (by omega)]
  have hc := sliceU_col t x
  have := h ((Rect.unit (s := S16x100352) (k0_off1 t) S16x256.size (k0_off1_inb t)).toLoadRect.idx x) (sliceU_row t x) (by rw [hc]; omega)
  rw [hc] at this
  rw [show 256 * (392 * (i 1).val + t.val) + (x 1).val = (i 1).val * 100352 + (256 * t.val + (x 1).val) by omega]
  exact this

theorem foldU_holds (k : ℕ) (hk : k ≤ 343) : Holds (foldU i X k) x (runFrom (lane f 1000000 (x 1).val) (392 * (i 1).val) k) := by
  induction k with
  | zero => exact Holds.start x
  | succ k ih =>
    have hkt : k < k0_t1_loop.trips := by rw [trips_eq]; omega
    rw [foldU_succ i X ⟨k, hkt⟩]
    unfold stepU
    rw [iv_eq k, stepNo_eq]
    have hu := (ih (by omega)).upd (stepScore i (BitVec.ofNat 32 k) (sliceU X ⟨k, hkt⟩)) (392 * (i 1).val + k)
    have hs := scoreU i X x f h ⟨k, hkt⟩
    rw [iv_eq] at hs
    rw [hs] at hu
    exact hu

/-- The masked steps. -/
theorem scoreM (j : Fin 49) :
    maskScore i (BitVec.ofNat 32 (343 + j.val)) (sliceM X j) x = lane f 1000000 (x 1).val (392 * (i 1).val + (343 + j.val)) := by
  have hcol : 256 * (392 * (i 1).val + (343 + j.val)) + (x 1).val = (i 1).val * 100352 + (256 * (343 + j.val) + (x 1).val) := by omega
  rw [maskScore_apply]
  unfold lane
  rw [hcol]
  by_cases hx : (i 1).val * 100352 + (256 * (343 + j.val) + (x 1).val) < 1000000
  · rw [if_pos hx, if_pos hx, stepScore_apply]
    have hc := sliceM_col j x
    have := h ((Rect.unit (s := S16x100352) (k0_off2 (BitVec.ofNat 32 (343 + j.val))) S16x256.size (k0_off2_inb j)).toLoadRect.idx x)
      (sliceM_row j x) (by rw [hc]; exact hx)
    rw [hc] at this
    exact this
  · rw [if_neg hx, if_neg hx]; exact Words.bot_bits

theorem foldM_holds (r : ℕ) (hr : r ≤ 49) (p : Carry Ideal)
    (hp : Holds p x (runFrom (lane f 1000000 (x 1).val) (392 * (i 1).val) (343 + (49 - r)))) :
    Holds (foldM i X r hr p) x (runFrom (lane f 1000000 (x 1).val) (392 * (i 1).val) 392) := by
  induction r generalizing p with
  | zero => exact hp
  | succ r ih =>
    refine ih (by omega) _ ?_
    unfold stepM
    rw [stepNo_eq]
    have hu := hp.upd (maskScore i (BitVec.ofNat 32 (343 + (48 - r))) (sliceM X ⟨48 - r, by omega⟩)) (392 * (i 1).val + (343 + (48 - r)))
    rw [scoreM i X x f h ⟨48 - r, by omega⟩] at hu
    rw [show 343 + (49 - r) = (343 + (49 - (r + 1))) + 1 by omega]
    rw [show 343 + (48 - r) = 343 + (49 - (r + 1)) by omega] at hu ⊢
    exact hu

/-- A chunk's steps leave the running pair of its segment. -/
theorem chunk_holds : Holds (chunk i X) x (runFrom (lane f 1000000 (x 1).val) (392 * (i 1).val) 392) := by
  refine foldM_holds i X x f h 49 _ _ ?_
  have hu := foldU_holds i X x f h 343 (le_refl _)
  rw [trips_eq]
  exact hu

/-- What a point leaves, from what was there. -/
theorem left_holds (s : Carry Ideal) (hs : (i 1).val ≠ 0 → Holds s x (best (lane f 1000000 (x 1).val) (392 * (i 1).val))) :
    Holds (left i (chunk i X) s) x (best (lane f 1000000 (x 1).val) (392 * ((i 1).val + 1))) := by
  have hc := chunk_holds i X x f h
  unfold left
  by_cases h0 : (i 1).val = 0
  · rw [if_pos h0]
    rw [h0] at hc ⊢
    rw [Nat.mul_zero, runFrom_zero] at hc
    exact hc
  · rw [if_neg h0, Nat.mul_add, Nat.mul_one, best_add]
    exact hc.merge (hs h0)

end block

end Cert.KernelProof

end

end
-- ==== Proof.Answer.lean ====
/- The kernel's answer for a row from its lanes, over the extended reals: the first place of a largest score. -/
module

public import proofs.«01_k».proof.Proof.Lanes
public import Idealize.ShloMosaic.PureOps.Ideal.Laws
public import Idealize.ShloMosaic.Lib.Pointwise.Index
public import Idealize.ShloMosaic.Lib.Pipeline.Value

@[expose] public section

set_option maxRecDepth 16384

noncomputable section

namespace Cert.KernelProof

open Cert.KernelIdeal Cert.KernelIdeal.Facts₀
open Idealize.ShloMosaic Idealize.ShloMosaic.TcCoe
open Cert.Pick

/-- A fold of `max` from minus infinity is a largest value. -/
theorem fold_max_spec {n : ℕ} (g : Fin (n + 1) → EReal) :
    (∀ l, g l ≤ Finset.univ.fold max ⊥ g) ∧ ∃ l, g l = Finset.univ.fold max ⊥ g := by
  have e : Finset.univ.fold max ⊥ g = Finset.univ.sup g := rfl
  rw [e]
  refine ⟨fun l => Finset.le_sup (Finset.mem_univ l), ?_⟩
  obtain ⟨l, _, hl⟩ := Finset.exists_mem_eq_sup Finset.univ ⟨0, Finset.mem_univ _⟩ g
  exact ⟨l, hl.symm⟩

theorem minsi_le (x y : BitVec 32) : (IntOp.minsi x y = x ∨ IntOp.minsi x y = y)
    ∧ (IntOp.minsi x y).toInt ≤ x.toInt ∧ (IntOp.minsi x y).toInt ≤ y.toInt := by
  unfold IntOp.minsi
  rw [BitVec.slt_eq_decide]
  by_cases h : x.toInt < y.toInt
  · rw [decide_eq_true h]; exact ⟨.inl rfl, le_refl _, h.le⟩
  · rw [decide_eq_false h]; exact ⟨.inr rfl, not_lt.mp h, le_refl _⟩

/-- A fold of the signed minimum is its start or one of the values, and at most every one. -/
theorem fold_min_spec {ι : Type} [DecidableEq ι] (s : Finset ι) (g : ι → BitVec 32) (a : BitVec 32) :
    (s.fold (IKind.op .minsi) a g = a ∨ ∃ l ∈ s, s.fold (IKind.op .minsi) a g = g l)
    ∧ (s.fold (IKind.op .minsi) a g).toInt ≤ a.toInt ∧ ∀ l ∈ s, (s.fold (IKind.op .minsi) a g).toInt ≤ (g l).toInt := by
  induction s using Finset.induction_on with
  | empty => exact ⟨.inl Finset.fold_empty, (congrArg BitVec.toInt Finset.fold_empty).le, fun l hl => absurd hl (Finset.notMem_empty l)⟩
  | insert k s hk ih =>
    rw [Finset.fold_insert hk]
    obtain ⟨h0, h1, h2⟩ := ih
    obtain ⟨m0, m1, m2⟩ := minsi_le (g k) (s.fold (IKind.op .minsi) a g)
    have e : IKind.op .minsi (g k) (s.fold (IKind.op .minsi) a g) = IntOp.minsi (g k) (s.fold (IKind.op .minsi) a g) := rfl
    rw [e]
    refine ⟨?_, m2.trans h1, fun l hl => ?_⟩
    · rcases m0 with m0 | m0
      · exact .inr ⟨k, Finset.mem_insert_self _ _, m0⟩
      · rcases h0 with h0 | ⟨l, hl, h0⟩
        · exact .inl (m0.trans h0)
        · exact .inr ⟨l, Finset.mem_insert_of_mem hl, m0.trans h0⟩
    · rcases Finset.mem_insert.mp hl with rfl | hl
      · exact m1
      · exact m2.trans (h2 l hl)

variable [Cert.KernelIdeal.Facts]

/-- The rows' best scores. -/
def rowMax (mx : FVec Ideal S16x256 .f32) : FVec Ideal S16 .f32 :=
  multiReduction .maximumf [1] S16 mx 0xFF800000#32 reduces_S16x256_S16 (.inl rfl) rfl

/-- The columns of the lanes holding their row's best score `M`, the largest word elsewhere. -/
def columns (mx : FVec Ideal S16x256 .f32) (ix : IVec S16x256 32) (M : FVec Ideal S16 .f32) : IVec S16x256 32 :=
  select (cmpf .oeq mx (broadcastTo S16x256 (shapeCast S16x1 M shapeCasts_S16_S16x1) broadcasts_S16x1_S16x256))
    (addi (muli ix (broadcast S16x256 256#32)) (iota .tc S16x256 32 [1] iota_S16x256_d1_w32))
    (broadcast S16x256 2147483647#32)

/-- The rows' smallest columns. -/
def rowMin (w : IVec S16x256 32) : IVec S16 32 := multiReductionI .minsi [1] S16 w 2147483647#32 reduces_S16x256_S16 rfl

theorem answer_eq (mx : FVec Ideal S16x256 .f32) (ix : IVec S16x256 32) :
    answer mx ix = shapeCast S16x1 (rowMin (columns mx ix (rowMax mx))) shapeCasts_S16_S16x1 := rfl

theorem lift_eq (r : Fin 16) (l : Fin 256) : reduces_S16x256_S16.lift (ix1 r) l = ix2 r l := by
  funext a
  match a with
  | ⟨0, _⟩ => rfl
  | ⟨1, _⟩ => rfl

theorem rowMax_spec (mx : FVec Ideal S16x256 .f32) (r : Fin 16) :
    (∀ l : Fin 256, mx (ix2 r l) ≤ rowMax mx (ix1 r)) ∧ ∃ l : Fin 256, mx (ix2 r l) = rowMax mx (ix1 r) := by
  have h : rowMax mx (ix1 r) = (Finset.univ : Finset (Fin 256)).fold max ⊥ (fun l => mx (ix2 r l)) := by
    refine (Ideal.multiReduction_maximumf_single mx _ reduces_S16x256_S16 _ _ (ix1 r)).trans ?_
    have hb : FloatOps.ofBits (F := Ideal) .f32 0xFF800000#32 = (⊥ : EReal) := Words.bot_bits
    rw [hb]
    exact Finset.fold_congr fun l _ => congrArg mx (lift_eq r l)
  rw [h]
  exact fold_max_spec (n := 255) (fun l => mx (ix2 r l))

theorem rowMin_spec (w : IVec S16x256 32) (r : Fin 16) :
    (rowMin w (ix1 r) = 2147483647#32 ∨ ∃ l : Fin 256, rowMin w (ix1 r) = w (ix2 r l))
    ∧ ∀ l : Fin 256, (rowMin w (ix1 r)).toInt ≤ (w (ix2 r l)).toInt := by
  have h : rowMin w (ix1 r) = (Finset.univ : Finset (Fin 256)).fold (IKind.op .minsi) 2147483647#32 (fun l => w (ix2 r l)) := by
    refine (multiReductionI_eq_fold .minsi w _ reduces_S16x256_S16 _ (ix1 r)).trans ?_
    refine (reduces_S16x256_S16.fold_filter_drop_single _ _ w (ix1 r)).trans ?_
    exact Finset.fold_congr fun l _ => congrArg w (lift_eq r l)
  rw [h]
  obtain ⟨h0, _, h2⟩ := fold_min_spec (Finset.univ : Finset (Fin 256)) (fun l => w (ix2 r l)) 2147483647#32
  exact ⟨h0.imp_right fun ⟨l, _, e⟩ => ⟨l, e⟩, fun l => h2 l (Finset.mem_univ l)⟩

theorem column_cast {α : Type} (M : S16.Idx → α) (r : Fin 16) (u : Fin 1) : shapeCast S16x1 M shapeCasts_S16_S16x1 (ix2 r u) = M (ix1 r) :=
  shapeCast_apply M _ _ _ (by
    have hu : u.val = 0 := by omega
    rw [Shape.rowMajor_val_two, Shape.rowMajor_val_one]
    show r.val = r.val * 1 + u.val
    omega)

theorem column_wide {α : Type} (M : S16x1.Idx → α) (r : Fin 16) (l : Fin 256) :
    broadcastTo S16x256 M broadcasts_S16x1_S16x256 (ix2 r l) = M (ix2 r 0) := by
  unfold broadcastTo
  refine congrArg M ?_
  funext a
  match a with
  | ⟨0, _⟩ => rfl
  | ⟨1, _⟩ => rfl

theorem columns_apply (mx : FVec Ideal S16x256 .f32) (ix : IVec S16x256 32) (M : FVec Ideal S16 .f32) (r : Fin 16) (l : Fin 256) (n : ℕ)
    (hn : ix (ix2 r l) = BitVec.ofNat 32 n) :
    columns mx ix M (ix2 r l) = if mx (ix2 r l) = M (ix1 r) then BitVec.ofNat 32 (256 * n + l.val) else 2147483647#32 := by
  have h : columns mx ix M (ix2 r l)
      = Scalar.select (BitVec.ofBool (decide (mx (ix2 r l) = broadcastTo S16x256 (shapeCast S16x1 M shapeCasts_S16_S16x1) broadcasts_S16x1_S16x256 (ix2 r l))))
        (ix (ix2 r l) * BitVec.ofNat 32 256 + iota .tc S16x256 32 [1] iota_S16x256_d1_w32 (ix2 r l)) 2147483647#32 := rfl
  rw [h, column_wide, column_cast, lane_apply, hn, ← BitVec.ofNat_mul, ← BitVec.ofNat_add, Nat.mul_comm]
  by_cases hm : mx (ix2 r l) = M (ix1 r)
  · rw [decide_eq_true hm, if_pos hm]; rfl
  · rw [decide_eq_false hm, if_neg hm]; rfl

/-- The answer of a row whose lanes hold the running pairs of all their scores. -/
theorem answer_apply (p : Carry Ideal) (r : Fin 16) (u : Fin 1) (f : ℕ → EReal)
    (h : ∀ l : Fin 256, Holds p (ix2 r l) (best (lane f 1000000 l.val) (3919 + 1))) (J : ℕ) (hJ : IsFirst f 1000000 J) :
    answer p.1 p.2 (ix2 r u) = BitVec.ofNat 32 J := by
  rw [answer_eq, column_cast]
  obtain ⟨hM, lM, hM'⟩ := rowMax_spec p.1 r
  obtain ⟨hA', hA⟩ := rowMin_spec (columns p.1 p.2 (rowMax p.1)) r
  generalize rowMin (columns p.1 p.2 (rowMax p.1)) (ix1 r) = A at *
  have hw := fun l : Fin 256 => columns_apply p.1 p.2 (rowMax p.1) r l _ (h l).num
  generalize columns p.1 p.2 (rowMax p.1) = w at *
  generalize rowMax p.1 (ix1 r) = M at *
  have hv := fun l : Fin 256 => (h l).val
  have hlt : ∀ l : Fin 256, 256 * (best (lane f 1000000 l.val) (3919 + 1)).2 + l.val < 2147483647 := fun l => by
    have := (best_spec (lane f 1000000 l.val) 3919).1.lt
    have := l.isLt
    omega
  have hAlt : A.toInt < 2147483647 := by
    refine (hA lM).trans_lt ?_
    rw [hw, if_pos hM', toInt_word _ (by have := hlt lM; omega)]
    exact_mod_cast hlt lM
  have hbig : (2147483647#32).toInt = 2147483647 := by decide
  -- the smallest column is that of a lane holding the row's best score
  have hlane : ∃ l : Fin 256, p.1 (ix2 r l) = M ∧ A = BitVec.ofNat 32 (256 * (best (lane f 1000000 l.val) (3919 + 1)).2 + l.val) := by
    rcases hA' with hA' | ⟨l, hl⟩
    · rw [hA', hbig] at hAlt; exact absurd hAlt (lt_irrefl _)
    · rw [hw] at hl
      by_cases hm : p.1 (ix2 r l) = M
      · rw [if_pos hm] at hl; exact ⟨l, hm, hl⟩
      · rw [if_neg hm] at hl; rw [hl, hbig] at hAlt; exact absurd hAlt (lt_irrefl _)
  obtain ⟨l0, hm0, hl0⟩ := hlane
  rw [hl0] at hA ⊢
  refine congrArg (BitVec.ofNat 32) ?_
  refine lanes_first f 1000000 3919 J (by norm_num) hJ M _ (fun l hl => ?_) ⟨lM.val, lM.isLt, ?_⟩ (fun l hl he => ?_) ⟨l0.val, l0.isLt, ?_, rfl⟩
  · have := hM ⟨l, hl⟩
    rw [hv] at this; exact this
  · rw [hv] at hM'; exact hM'
  · have h1 := hA ⟨l, hl⟩
    rw [hw, if_pos ((hv ⟨l, hl⟩).trans he), toInt_word _ (by have := hlt l0; omega), toInt_word _ (by have := hlt ⟨l, hl⟩; omega)] at h1
    exact_mod_cast h1
  · rw [hv] at hm0; exact hm0

end Cert.KernelProof

end

end
-- ==== Proof.RefPick.lean ====
/- The reference's arg-max over the extended reals: along every row it is the first place of a largest value. -/
module

public import proofs.«01_k».proof.Proof.RefRun
public import proofs.«01_k».proof.Proof.Pick
public import Idealize.ShloMosaic.PureOps.Ideal.Laws
public import Idealize.ShloMosaic.Lib.Pointwise.Index

@[expose] public section

noncomputable section

namespace Cert.RefProof

open Cert.ReferenceIdeal Cert.ReferenceIdeal.Facts₀
open Idealize.ShloMosaic Idealize.ShloMosaic.TcCoe
open Cert.Pick

variable [Cert.ReferenceIdeal.Facts]

/-- A row of the scores as a sequence, minus infinity past the row's end. -/
def row (f : FVec Ideal S64x1000000 .f32) (R : Fin 64) (n : ℕ) : EReal :=
  if h : n < 1000000 then f (ix2 R ⟨n, h⟩) else ⊥

theorem row_of (f : FVec Ideal S64x1000000 .f32) (i : S64x1000000.Idx) : row f (i 0) (i 1).val = f i :=
  (dif_pos (i 1).isLt).trans (congrArg f (eq_ix2 i).symm)

/-- `r` is at least as good as `p`: a larger value, or the same at no later a place. -/
def Better (r p : EReal × BitVec 32) : Prop := p.1 < r.1 ∨ (p.1 = r.1 ∧ r.2.toInt ≤ p.2.toInt)

theorem Better.refl (r : EReal × BitVec 32) : Better r r := .inr ⟨rfl, le_refl _⟩

theorem Better.trans {a b c : EReal × BitVec 32} (h : Better a b) (h' : Better b c) : Better a c := by
  rcases h with h | ⟨h, hi⟩ <;> rcases h' with h' | ⟨h', hi'⟩
  · exact .inl (h'.trans h)
  · exact .inl (h'.trans_lt h)
  · exact .inl (h'.trans_eq h)
  · exact .inr ⟨h'.trans h, hi.trans hi'⟩

/-- The arg-max's body picks one of its two pairs, and the better one. -/
theorem reducer_spec (a b : EReal × BitVec 32) :
    (reducer_argmax_f32_i32 (F := Ideal) a b = a ∨ reducer_argmax_f32_i32 (F := Ideal) a b = b)
    ∧ Better (reducer_argmax_f32_i32 (F := Ideal) a b) a ∧ Better (reducer_argmax_f32_i32 (F := Ideal) a b) b := by
  obtain ⟨a1, a2⟩ := a
  obtain ⟨b1, b2⟩ := b
  have hgt : FloatOps.cmpf (F := Ideal) (φ := .f32) .ogt a1 b1 = BitVec.ofBool (decide (b1 < a1)) := rfl
  have hne : FloatOps.cmpf (F := Ideal) (φ := .f32) .une a1 a1 = 0#1 := by
    show BitVec.ofBool (decide (a1 ≠ a1)) = _
    simp
  have heq : FloatOps.cmpf (F := Ideal) (φ := .f32) .oeq a1 b1 = BitVec.ofBool (decide (a1 = b1)) := rfl
  have hslt : IntOp.cmpi .slt a2 b2 = BitVec.ofBool (decide (a2.toInt < b2.toInt)) := by
    show BitVec.ofBool (a2.slt b2) = _
    rw [BitVec.slt_eq_decide]
  have hred : reducer_argmax_f32_i32 (F := Ideal) (a1, a2) (b1, b2)
      = (Scalar.select (IntOp.ori (BitVec.ofBool (decide (b1 < a1))) 0#1) a1 b1,
        Scalar.select (IntOp.ori (IntOp.ori (BitVec.ofBool (decide (b1 < a1))) 0#1)
          (IntOp.andi (BitVec.ofBool (decide (a1 = b1))) (BitVec.ofBool (decide (a2.toInt < b2.toInt))))) a2 b2) := by
    rw [← hgt, ← heq, ← hslt, ← hne]; rfl
  rw [hred]
  rcases lt_trichotomy b1 a1 with h | h | h
  · have e : (Scalar.select (IntOp.ori (BitVec.ofBool (decide (b1 < a1))) 0#1) a1 b1,
        Scalar.select (IntOp.ori (IntOp.ori (BitVec.ofBool (decide (b1 < a1))) 0#1)
          (IntOp.andi (BitVec.ofBool (decide (a1 = b1))) (BitVec.ofBool (decide (a2.toInt < b2.toInt))))) a2 b2) = (a1, a2) := by
      rw [decide_eq_true h, decide_eq_false h.ne']
      by_cases h2 : a2.toInt < b2.toInt
      · rw [decide_eq_true h2]; rfl
      · rw [decide_eq_false h2]; rfl
    rw [e]
    exact ⟨.inl rfl, Better.refl _, .inl h⟩
  · subst h
    by_cases h2 : a2.toInt < b2.toInt
    · have e : (Scalar.select (IntOp.ori (BitVec.ofBool (decide (b1 < b1))) 0#1) b1 b1,
          Scalar.select (IntOp.ori (IntOp.ori (BitVec.ofBool (decide (b1 < b1))) 0#1)
            (IntOp.andi (BitVec.ofBool (decide (b1 = b1))) (BitVec.ofBool (decide (a2.toInt < b2.toInt))))) a2 b2) = (b1, a2) := by
        rw [decide_eq_false (lt_irrefl _), decide_eq_true rfl, decide_eq_true h2]; rfl
      rw [e]
      exact ⟨.inl rfl, Better.refl _, .inr ⟨rfl, h2.le⟩⟩
    · have e : (Scalar.select (IntOp.ori (BitVec.ofBool (decide (b1 < b1))) 0#1) b1 b1,
          Scalar.select (IntOp.ori (IntOp.ori (BitVec.ofBool (decide (b1 < b1))) 0#1)
            (IntOp.andi (BitVec.ofBool (decide (b1 = b1))) (BitVec.ofBool (decide (a2.toInt < b2.toInt))))) a2 b2) = (b1, b2) := by
        rw [decide_eq_false (lt_irrefl _), decide_eq_true rfl, decide_eq_false h2]; rfl
      rw [e]
      exact ⟨.inr rfl, .inr ⟨rfl, not_lt.mp h2⟩, Better.refl _⟩
  · have e : (Scalar.select (IntOp.ori (BitVec.ofBool (decide (b1 < a1))) 0#1) a1 b1,
        Scalar.select (IntOp.ori (IntOp.ori (BitVec.ofBool (decide (b1 < a1))) 0#1)
          (IntOp.andi (BitVec.ofBool (decide (a1 = b1))) (BitVec.ofBool (decide (a2.toInt < b2.toInt))))) a2 b2) = (b1, b2) := by
      rw [decide_eq_false h.not_gt, decide_eq_false h.ne]
      by_cases h2 : a2.toInt < b2.toInt
      · rw [decide_eq_true h2]; rfl
      · rw [decide_eq_false h2]; rfl
    rw [e]
    exact ⟨.inr rfl, .inl h, Better.refl _⟩

/-- A fold of the body: the result is the start or one of the list's pairs, and is at least as good as all of them. -/
theorem fold_spec (L : List (EReal × BitVec 32)) (s : EReal × BitVec 32) :
    (L.foldl (reducer_argmax_f32_i32 (F := Ideal)) s = s ∨ L.foldl (reducer_argmax_f32_i32 (F := Ideal)) s ∈ L)
    ∧ Better (L.foldl (reducer_argmax_f32_i32 (F := Ideal)) s) s
    ∧ ∀ p ∈ L, Better (L.foldl (reducer_argmax_f32_i32 (F := Ideal)) s) p := by
  induction L generalizing s with
  | nil => exact ⟨.inl rfl, Better.refl _, fun p hp => nomatch hp⟩
  | cons q L ih =>
    obtain ⟨hm, hs, hL⟩ := ih (reducer_argmax_f32_i32 (F := Ideal) s q)
    obtain ⟨ho, h1, h2⟩ := reducer_spec s q
    rw [List.foldl_cons]
    refine ⟨?_, hs.trans h1, fun p hp => ?_⟩
    · rcases hm with hm | hm
      · rcases ho with ho | ho
        · exact .inl (hm.trans ho)
        · exact .inr (List.mem_cons.mpr (.inl (hm.trans ho)))
      · exact .inr (List.mem_cons_of_mem _ hm)
    · rcases List.mem_cons.mp hp with rfl | hp
      · exact hs.trans h2
      · exact hL p hp

/-- A small number's word reads back as itself, signed. -/
theorem toInt_word (n : ℕ) (h : n < 2147483648) : (BitVec.ofNat 32 n).toInt = n := by
  rw [BitVec.toInt_ofNat', Int.bmod_def]; norm_cast; omega

/-- The arg-max's fiber at a result index: the row's values with their places. -/
theorem mem_fiber (f : FVec Ideal S64x1000000 .f32) (j : S64.Idx) (p : EReal × BitVec 32) :
    p ∈ Host.argReduceFiber f (iotaInDim S64x1000000 32 1) reducesTo_S64x1000000_S64_d1 j
      ↔ ∃ i : S64x1000000.Idx, i 0 = j 0 ∧ p = (f i, BitVec.ofNat 32 (i 1).val) := by
  unfold Host.argReduceFiber
  rw [List.mem_map]
  constructor
  · rintro ⟨k, hk, rfl⟩
    have hd := of_decide_eq_true (List.mem_filter.mp hk).2
    exact ⟨S64x1000000.rowMajor.symm k, congrFun hd 0, rfl⟩
  · rintro ⟨i, hi, rfl⟩
    refine ⟨S64x1000000.rowMajor i, List.mem_filter.mpr ⟨List.mem_finRange _, decide_eq_true ?_⟩, ?_⟩
    · rw [Equiv.symm_apply_apply]
      funext b
      match b with
      | ⟨0, _⟩ => exact hi
    · rw [Equiv.symm_apply_apply]
      rfl

/-- A two-operand reduction at an index, over the extended reals: the fold of its body over the fiber. -/
theorem argReduce_fold {s t u : Shape} {axes : List (Fin s.rank)} (g : EReal × BitVec 32 → EReal × BitVec 32 → EReal × BitVec 32)
    (x : FVec Ideal s .f32) (y : IVec s 32) (ix : FVec Ideal u .f32) (iy : IVec u 32) (h : s.ReducesTo axes t) (hu : 0 < u.numel)
    (j : t.Idx) (a : EReal) (b : BitVec 32) (ha : ∀ k, ix k = a) (hb : ∀ k, iy k = b) :
    Host.argReduce (F := Ideal) (φ := .f32) g x y ix iy h hu j = (Host.argReduceFiber x y h j).foldl g (a, b) := by
  rw [Ideal.argReduce_eq_reduce2, Host.reduce2_eq_foldl_fiber, ha, hb]

/-- The arg-max's starting value is minus infinity. -/
theorem start_bot (k : S_.Idx) : constant (F := Ideal) S_ .f32 0xFF800000#32 k = (⊥ : EReal) := by
  show Ideal.ofBits .f32 0xFF800000#32 = ⊥
  simp [Ideal.ofBits, Ideal.ieee]

/-- The arg-max is the fold of its body over the fiber. -/
theorem largest_eq_fold (f : FVec Ideal S64x1000000 .f32) (j : S64.Idx) :
    largest (F := Ideal) f j
      = (Host.argReduceFiber f (iotaInDim S64x1000000 32 1) reducesTo_S64x1000000_S64_d1 j).foldl
          (reducer_argmax_f32_i32 (F := Ideal)) ((⊥ : EReal), 0#32) :=
  argReduce_fold _ f _ _ _ _ _ j _ _ start_bot (fun _ => rfl)

/-- The reference's result along a row: the first place of a largest score. -/
theorem result_spec (f : FVec Ideal S64x1000000 .f32) (j : S64.Idx) :
    ∃ J, IsFirst (row f (j 0)) 1000000 J ∧ result (F := Ideal) f j = BitVec.ofNat 32 J := by
  obtain ⟨hm, hs, hL⟩ := fold_spec (Host.argReduceFiber f (iotaInDim S64x1000000 32 1) reducesTo_S64x1000000_S64_d1 j) ((⊥ : EReal), 0#32)
  rw [result_def, places_apply, largest_eq_fold]
  generalize (Host.argReduceFiber f (iotaInDim S64x1000000 32 1) reducesTo_S64x1000000_S64_d1 j).foldl
          (reducer_argmax_f32_i32 (F := Ideal)) ((⊥ : EReal), 0#32) = r at *
  -- every place of the row is in the fiber
  have hall : ∀ n, n < 1000000 → Better r (row f (j 0) n, BitVec.ofNat 32 n) := fun n hn =>
    hL _ ((mem_fiber f j _).mpr ⟨ix2 (j 0) ⟨n, hn⟩, rfl, Prod.ext (row_of f (ix2 (j 0) ⟨n, hn⟩)) rfl⟩)
  -- and the fiber holds nothing else
  have hmem : ∃ J, J < 1000000 ∧ r = (row f (j 0) J, BitVec.ofNat 32 J) := by
    rcases hm with hm | hm
    · refine ⟨0, by norm_num, ?_⟩
      have h0 := hall 0 (by norm_num)
      rw [hm] at h0 ⊢
      rcases h0 with h0 | h0
      · exact absurd h0 not_lt_bot
      · exact Prod.ext h0.1.symm rfl
    · obtain ⟨i, hi, hr⟩ := (mem_fiber f j _).mp hm
      exact ⟨(i 1).val, (i 1).isLt, hr.trans (Prod.ext (hi ▸ (row_of f i).symm) rfl)⟩
  obtain ⟨J, hJ, rfl⟩ := hmem
  refine ⟨J, ⟨hJ, fun n hn => ?_, fun n hn => ?_⟩, rfl⟩
  · rcases hall n hn with h | h
    · exact h.le
    · exact h.1.le
  · rcases hall n (hn.trans hJ) with h | ⟨_, h⟩
    · exact h
    · rw [toInt_word J (by omega), toInt_word n (by omega)] at h
      omega

end Cert.RefProof

end

end
-- ==== Proof.RefWords.lean ====
/- The reference's score at an element is the score of the element's place, plus 42, and its logit. -/
module

public import proofs.«01_k».proof.Proof.Words

@[expose] public section

set_option maxRecDepth 16384

noncomputable section

namespace Cert.RefProof

open Cert.ReferenceIdeal Cert.ReferenceIdeal.Facts₀
open Idealize.ShloMosaic Idealize.ShloMosaic.TcCoe

variable [Cert.ReferenceIdeal.Facts]

/-- A pair's two words at an element. -/
def at2 (p : Pair) (e : S64x1000000.Idx) : Words.Two := (p.1 e, p.2 e)

theorem rnd_apply (r s : BitVec 32) (a b : IVec S64x1000000 32) (e : S64x1000000.Idx) :
    rnd r s a b e = Words.rnd r s (a e) (b e) := by
  unfold rnd
  rw [hostShli_eq_shli, hostShrui_eq_shrui]
  exact BitVec.xor_comm _ _

theorem mix_apply (r s : Fin 4 → BitVec 32) (p : Pair) (e : S64x1000000.Idx) :
    at2 (mix r s p) e = Words.mix (r 0) (s 0) (r 1) (s 1) (r 2) (s 2) (r 3) (s 3) (at2 p e) := by
  unfold mix Words.mix at2
  have ha : ∀ a b : IVec S64x1000000 32, addi a b e = IntOp.addi (a e) (b e) := fun _ _ => rfl
  simp only [rnd_apply, ha]

theorem mixA_apply (p : Pair) (e : S64x1000000.Idx) : at2 (mixA p) e = Words.mixA (at2 p e) := mix_apply _ _ p e
theorem mixB_apply (p : Pair) (e : S64x1000000.Idx) : at2 (mixB p) e = Words.mixB (at2 p e) := mix_apply _ _ p e

theorem start_apply (p : Pair) (e : S64x1000000.Idx) : at2 (start p) e = Words.start (at2 p e) := rfl

theorem bump_apply (a b n c : BitVec 32) (hc : IntOp.addi b n = c) (p : Pair) (e : S64x1000000.Idx) :
    at2 (bump (constantI S_ 32 a) (constantI S_ 32 b) n p) e = Words.bump a c (at2 p e) := by
  subst hc
  exact Prod.ext rfl (BitVec.add_assoc _ _ _)

theorem bump_apply_zero (b n c : BitVec 32) (hc : IntOp.addi b n = c) (p : Pair) (e : S64x1000000.Idx) :
    at2 (bump (constantI S_ 32 0#32) (constantI S_ 32 b) n p) e = Words.bump2 c (at2 p e) := by
  subst hc
  exact Prod.ext (BitVec.add_zero _) (BitVec.add_assoc _ _ _)

theorem last_apply (a c : BitVec 32) (p : Words.Two) :
    IntOp.xori (Words.bump a c p).1 (Words.bump a c p).2 = IntOp.xori (IntOp.addi p.1 a) (IntOp.addi p.2 c) := rfl

/-- The key's words are 0 and 42, and the third is 466689008. -/
theorem key0_eq : key0 = constantI S_ 32 0#32 := by
  funext j
  sl_kernel_rfl
theorem key1_eq : key1 = constantI S_ 32 42#32 := by
  funext j
  rw [Subsingleton.elim j (fun a => a.elim0)]
  sl_kernel_rfl
theorem third_eq : third (constantI S_ 32 0#32) (constantI S_ 32 42#32) = constantI S_ 32 466689008#32 := by
  funext j
  show IntOp.xori (IntOp.xori 0#32 42#32) 466688986#32 = 466689008#32
  decide

/-- The word of the generator's pair: for the key 0, 42, the high counter 0 and any low counter. -/
theorem hash_apply (x0 x1 : IVec S64x1000000 32) (e : S64x1000000.Idx) (h0 : x0 e = 0#32) :
    xori (hash key0 key1 x0 x1).1 (hash key0 key1 x0 x1).2 e = Words.gen (x1 e + 42#32) := by
  have hx : ∀ p : Pair, xori (bump (constantI S_ 32 466689008#32) (constantI S_ 32 0#32) 5#32 p).1 (bump (constantI S_ 32 466689008#32) (constantI S_ 32 0#32) 5#32 p).2 e
      = Words.end1 (at2 p e) := fun p => by
    have h := bump_apply 466689008#32 0#32 5#32 5#32 (by decide) p e
    exact (congrArg (fun q : Words.Two => IntOp.xori q.1 q.2) h).trans (last_apply _ _ _)
  have hs : at2 (start (addi x0 (wide (constantI S_ 32 0#32)), addi x1 (wide (constantI S_ 32 42#32)))) e
      = (x1 e + 42#32, x1 e + 42#32) := by
    refine Prod.ext ?_ rfl
    show (x0 e + 0#32) + (x1 e + 42#32) = _
    rw [h0, BitVec.add_zero, BitVec.zero_add]
  unfold hash
  rw [key0_eq, key1_eq, third_eq]
  dsimp only
  rw [hx, mixA_apply, start_apply, bump_apply 42#32 466689008#32 4#32 _ rfl, mixB_apply, start_apply, bump_apply_zero 42#32 3#32 _ rfl,
    mixA_apply, start_apply, bump_apply 466689008#32 0#32 2#32 2#32 (by decide), mixB_apply, start_apply,
    bump_apply 42#32 466689008#32 1#32 _ rfl, mixA_apply, hs]
  rfl

/-- The place of row `R`, column `C`, as a 64-bit word. -/
theorem place_apply (e : S64x1000000.Idx) : place e = BitVec.ofNat 64 ((e 0).val * 1000000 + (e 1).val) := by
  have h : place e = 1000000#64 * BitVec.ofNat 64 (e 0).val + 1#64 * BitVec.ofNat 64 (e 1).val := rfl
  rw [h, BitVec.ofNat_add, BitVec.ofNat_mul, BitVec.one_mul, BitVec.mul_comm]

theorem place_lt (e : S64x1000000.Idx) : (e 0).val * 1000000 + (e 1).val < 4294967296 := by
  have h0 : (e 0).val < 64 := (e 0).isLt
  have h1 : (e 1).val < 1000000 := (e 1).isLt
  omega

theorem placeLo_apply (e : S64x1000000.Idx) : placeLo e = BitVec.ofNat 32 ((e 0).val * 1000000 + (e 1).val) := by
  have h : placeLo e = (place e).setWidth 32 := rfl
  have := place_lt e
  rw [h, place_apply]
  apply BitVec.eq_of_toNat_eq
  rw [BitVec.toNat_setWidth, BitVec.toNat_ofNat, BitVec.toNat_ofNat]
  omega

theorem placeHi_apply (e : S64x1000000.Idx) : placeHi e = 0#32 := by
  have h : placeHi e = (IntOp.shrui .host (place e) 32#64).setWidth 32 := rfl
  have hl := place_lt e
  have hs : IntOp.shrui .host (place e) 32#64 = place e >>> 32#64 := if_pos (by decide)
  rw [h, hs, place_apply]
  apply BitVec.eq_of_toNat_eq
  rw [BitVec.toNat_setWidth, BitVec.ushiftRight_eq', BitVec.toNat_ushiftRight, BitVec.toNat_ofNat]
  have h2 : ((e 0).val * 1000000 + (e 1).val) % 2 ^ 64 = (e 0).val * 1000000 + (e 1).val := Nat.mod_eq_of_lt (by omega)
  rw [h2, show (32#64).toNat = 32 from rfl, Nat.shiftRight_eq_div_pow, Nat.div_eq_of_lt (by omega)]
  rfl

/-- The generator's word of the program at an element. -/
theorem words_apply (e : S64x1000000.Idx) :
    xori words.1 words.2 e = Words.gen (BitVec.ofNat 32 ((e 0).val * 1000000 + (e 1).val) + 42#32) := by
  unfold words
  rw [hash_apply _ _ e (placeHi_apply e), placeLo_apply]

/-- The score from the generator's word. -/
def scoreWith (w : IVec S64x1000000 32) (lg : FVec Ideal S64x1000000 .f32) : FVec Ideal S64x1000000 .f32 :=
  addf (Host.negf (Host.log (Host.negf (Host.log (maximumf
    (maximumf (wideE (endF 0x00000000#32))
    (addf (mulf (subf (bitcastToFloat .f32 (ori (Host.shrui w (wide (constantI S_ 32 9#32))) (wide (constantI S_ 32 1065353216#32))))
        (wideF (constant S_ .f32 0x3F800000#32)))
      (wideE (subf (endF 0x3F800000#32) (endF 0x00000000#32)))) (wideE (endF 0x00000000#32)))) (wideF (constant S_ .f32 0x00800000#32))))))) lg

theorem score_with (p : Pair) (lg : FVec Ideal S64x1000000 .f32) : score p lg = scoreWith (xori p.1 p.2) lg := by
  sl_kernel_rfl

/-- The reference's draw is the kernel's: the draw on [0, 1), and at least the smallest normal number. -/
theorem draw_eq (u : EReal) : max (max 0 (u * (1 - 0) + 0)) (Ideal.ofBits .f32 0x00800000#32) = max u (Ideal.ofBits .f32 0x00800000#32) := by
  rw [sub_zero, mul_one, add_zero, max_comm 0 u, max_assoc, max_eq_right Words.tiny_nonneg]

/-- The two forms of the score. -/
theorem noise_eq (d l : EReal) : - Ideal.log (- Ideal.log d) + l = l - Ideal.log (0 - Ideal.log d) := by
  rw [zero_sub, sub_eq_add_neg, add_comm]

theorem scoreWith_apply (w : IVec S64x1000000 32) (lg : FVec Ideal S64x1000000 .f32) (e : S64x1000000.Idx) :
    scoreWith w lg e = Words.score (w e) (lg e) := by
  unfold scoreWith
  rw [hostShrui_eq_shrui]
  have h : ∀ W : IVec S64x1000000 32, addf (Host.negf (Host.log (Host.negf (Host.log (maximumf
    (maximumf (wideE (endF 0x00000000#32))
    (addf (mulf (subf (bitcastToFloat .f32 W)
        (wideF (constant S_ .f32 0x3F800000#32)))
      (wideE (subf (endF 0x3F800000#32) (endF 0x00000000#32)))) (wideE (endF 0x00000000#32)))) (wideF (constant S_ .f32 0x00800000#32))))))) lg e
      = (- Ideal.log (- Ideal.log (max (max (Ideal.ofBits .f32 0x00000000#32) ((FloatOps.ofBits (F := Ideal) .f32 (W e) - Ideal.ofBits .f32 0x3F800000#32)
          * (Ideal.ofBits .f32 0x3F800000#32 - Ideal.ofBits .f32 0x00000000#32) + Ideal.ofBits .f32 0x00000000#32)) (Ideal.ofBits .f32 0x00800000#32))) + lg e : EReal) := by
    intro W
    sl_kernel_rfl
  rw [h]
  have hs : ∀ x : BitVec 32, ∀ l : EReal, Words.score x l = l - Ideal.log (Ideal.ofBits .f32 0x00000000#32 - Ideal.log (max
      (FloatOps.ofBits (F := Ideal) .f32 (IntOp.ori (IntOp.shrui .vector x 9#32) 1065353216#32) - Ideal.ofBits .f32 0x3F800000#32)
      (Ideal.ofBits .f32 0x00800000#32))) := by
    intro x l
    sl_kernel_rfl
  rw [hs, Words.zero_bits, Words.one_bits, draw_eq, noise_eq]
  rfl

/-- The reference's score at an element. -/
theorem score_apply (lg : FVec Ideal S64x1000000 .f32) (e : S64x1000000.Idx) :
    score words lg e = Words.score (Words.gen (BitVec.ofNat 32 ((e 0).val * 1000000 + (e 1).val) + 42#32)) (lg e) := by
  rw [score_with, scoreWith_apply, words_apply]

end Cert.RefProof

end

end
-- ==== Proof.Value.lean ====
/- The kernel's result over the extended reals is the reference's, and the claim that says so. -/
module

public import proofs.«01_k».proof.Proof.Run
public import proofs.«01_k».proof.Proof.Answer
public import proofs.«01_k».proof.Proof.RefPick
public import proofs.«01_k».proof.Proof.RefWords
public import Idealize.ShloMosaic.Lib.Claim
public import Idealize.ShloMosaic.Lib.Pipeline.ValueKit

@[expose] public section

set_option maxRecDepth 16384

noncomputable section

namespace Cert.KernelProof

open Cert.KernelIdeal Cert.KernelIdeal.Facts₀ Cert.KernelIdeal.Gen
open Idealize.ShloMosaic Idealize.ShloMosaic.TcCoe
open Idealize.SL.Sem
open Idealize.ShloMosaic.Pipeline (Dat Cfg Window)
open Cert.Pick

variable (m : (ℓ : Loc nD τ sig) → Buf (Elt Ideal) ℓ) (ρ : Dev nD → PrngReg)

/-- The logits on a core. -/
def logits (c : Dev nD) : FVec Ideal S64x1000000 .f32 := m ((c.tc : Thread nD τ).loc main_arg0)

/-- The reference's scores of a row of them. -/
def rowScores (c : Dev nD) (R : Fin 64) : ℕ → EReal := RefProof.row (RefProof.score (F := Ideal) RefProof.words (logits m c)) R

/-- The result the kernel must leave on a core. -/
def wanted (c : Dev nD) : IVec S64 32 := RefProof.result (F := Ideal) (RefProof.score RefProof.words (logits m c))

/-- The row of a block's row at a point. -/
def rowAt (i : grid0.Coords) (x0 : Fin 16) : Fin 64 := ⟨16 * (i 0).val + x0.val, by
  have h : (i 0).val < 4 := (i 0).isLt
  omega⟩

theorem index0 : ∀ t : Fin cfg0.N, win0_0.index t 0 = (grid0.coords t 0).val ∧ win0_0.index t 1 = (grid0.coords t 1).val := by decide +kernel
theorem index1 : ∀ t : Fin cfg0.N, win0_1.index t 0 = (grid0.coords t 0).val ∧ win0_1.index t 1 = 0 := by decide +kernel

/-- A staged block's column inside the array holds the logit there. -/
theorem xfull_apply (c : Dev nD) (t : Fin cfg0.N) (y : S16x100352.Idx) (hy : (grid0.coords t 1).val * 100352 + (y 1).val < 1000000) :
    xfull m c t y = logits m c (ix2 (rowAt (grid0.coords t) (y 0)) ⟨(grid0.coords t 1).val * 100352 + (y 1).val, hy⟩) := by
  have hm : win0_0.moved (grid0.coords t) y = true := (win0_0.moved_iff (grid0.coords t) y).mpr (fun a => by
    obtain ⟨h0, h1⟩ := xsize_0 (grid0.coords t)
    match a with
    | ⟨0, _⟩ => show (y 0).val < win0_0.xsize (grid0.coords t) 0; rw [h0]; exact (y 0).isLt
    | ⟨1, _⟩ =>
      show (y 1).val < win0_0.xsize (grid0.coords t) 1; rw [h1]
      have h2 : (y 1).val < 100352 := (y 1).isLt
      omega)
  unfold xfull Window.fill
  rw [dif_pos hm]
  show V m c main_arg0 ((win0_0.blk t).view.emb _) = _
  rw [V_main_arg0]
  refine congrArg (logits m c) ?_
  funext a
  apply Fin.ext
  obtain ⟨h0, h1⟩ := index0 t
  match a with
  | ⟨0, _⟩ =>
    refine (Window.rect_emb_val win0_0 t _ 0).trans ?_
    rw [h0]
    show (grid0.coords t 0).val * 16 + (y 0).val = 16 * (grid0.coords t 0).val + (y 0).val
    omega
  | ⟨1, _⟩ =>
    refine (Window.rect_emb_val win0_0 t _ 1).trans ?_
    rw [h1]
    rfl

/-- A staged block's scores are the row's. -/
theorem xfull_scores (c : Dev nD) (t : Fin cfg0.N) (x0 : Fin 16) :
    Scores (grid0.coords t) (xfull m c t) x0 (rowScores m c (rowAt (grid0.coords t) x0)) := by
  intro y hy0 hy
  have hx : y 0 = x0 := Fin.ext hy0
  rw [xfull_apply m c t y hy, hx]
  unfold rowScores RefProof.row
  rw [dif_pos hy, RefProof.score_apply]
  rfl

/-- What a lane of the scratch buffers holds after a point. -/
theorem accum_holds (c : Dev nD) (x : S16x256.Idx) (n : ℕ) : ∀ t : Fin cfg0.N, t.val = n →
    Holds (accum m c (t.val + 1)) x
      (best (lane (rowScores m c (rowAt (grid0.coords t) (x 0))) 1000000 (x 1).val) (392 * ((grid0.coords t 1).val + 1))) := by
  induction n with
  | zero =>
    intro t ht
    rw [accum_succ]
    refine left_holds _ _ x _ (xfull_scores m c t (x 0)) _ fun h => ?_
    rw [coord1, ht] at h
    exact absurd rfl h
  | succ n ih =>
    intro t ht
    rw [accum_succ]
    refine left_holds _ _ x _ (xfull_scores m c t (x 0)) _ fun h => ?_
    have hn : n < cfg0.N := by have := t.isLt; omega
    have hp := ih ⟨n, hn⟩ rfl
    have c1 := coord1 t
    have c0 := coord0 t
    have d1 := coord1 ⟨n, hn⟩
    have d0 := coord0 ⟨n, hn⟩
    rw [c1] at h
    have e1 : (grid0.coords ⟨n, hn⟩ 1).val + 1 = (grid0.coords t 1).val := by
      rw [c1, d1]; show n % 10 + 1 = _; omega
    have e0 : rowAt (grid0.coords ⟨n, hn⟩) (x 0) = rowAt (grid0.coords t) (x 0) := by
      apply Fin.ext
      show 16 * (grid0.coords ⟨n, hn⟩ 0).val + _ = 16 * (grid0.coords t 0).val + _
      rw [c0, d0]
      have : n / 10 = t.val / 10 := by omega
      show 16 * (n / 10) + _ = _
      rw [this]
    rw [e1, e0] at hp
    rw [ht]
    exact hp

/-- The answer a row block's last point stores. -/
theorem stored (c : Dev nD) (t : Fin cfg0.N) (ht : t.val % 10 = 9) (r : Fin 16) (u : Fin 1) :
    answer (F := Ideal) (accum m c (t.val + 1)).1 (accum m c (t.val + 1)).2 (ix2 r u) = wanted m c (ix1 (rowAt (grid0.coords t) r)) := by
  obtain ⟨J, hJ, hr⟩ := RefProof.result_spec (RefProof.score (F := Ideal) RefProof.words (logits m c)) (ix1 (rowAt (grid0.coords t) r))
  unfold wanted
  rw [hr]
  refine answer_apply _ r u (rowScores m c (rowAt (grid0.coords t) r)) (fun l => ?_) J hJ
  have h := accum_holds m c (ix2 r l) t.val t rfl
  have e : 392 * ((grid0.coords t 1).val + 1) = 3919 + 1 := by rw [coord1, ht]
  rw [e] at h
  exact h

/-- The array of the answers after the last point. -/
theorem answers (c : Dev nD) :
    (dats m 0 c).arrAt 1 cfg0.N = (fun i : S64x1.Idx => wanted m c (ix1 (i 0))) := by
  refine (dats m 0 c).arrAt_eq_of_covers 1 _ (by decide +kernel) fun t hf y => ?_
  have ht := (flush0_1 t).mp hf
  show answer (F := Ideal) (accum m c (t.val + 1)).1 (accum m c (t.val + 1)).2 y = _
  refine (congrArg _ (eq_ix2 y)).trans ((stored m c t ht (y 0) (y 1)).trans ?_)
  refine congrArg (fun R : Fin 64 => wanted m c (ix1 R)) ?_
  apply Fin.ext
  refine Eq.trans ?_ (Window.rect_emb_val win0_1 t y 0).symm
  rw [(index1 t).1]
  show 16 * (grid0.coords t 0).val + (y 0).val = (grid0.coords t 0).val * 16 + (y 0).val
  omega

/-- The result, the answers as a vector. -/
theorem result_value (c : Dev nD) :
    Pipeline.afterTail₀ cfgs (dats m) 0 (V0 m) [hostOps1] c main_v1 = wanted m c := by
  have h : Pipeline.afterTail₀ cfgs (dats m) 0 (V0 m) [hostOps1] c main_v1
      = shapeCast S64 (show S64x1.Idx → BitVec 32 from (dats m 0 c).arrAt 1 cfg0.N) Gen.shapeCasts_S64x1_S64 := by
    have hw := Pipeline.withArrays_arr (cfgs 0).spec (by decide) c (V0 m c) (fun w => (dats m 0 c).arrAt w (cfgs 0).N) 1
    unfold Pipeline.afterTail₀ hostOps1
    simp only [List.flatten_cons, List.flatten_nil, List.append_nil]
    after_results
    exact congrArg (fun x : S64x1.Idx → BitVec 32 => shapeCast S64 x Gen.shapeCasts_S64x1_S64) hw
  rw [h, answers]
  funext j
  refine (shapeCast_apply _ _ j (ix2 (j 0) 0) ?_).trans ?_
  · rw [Shape.rowMajor_val_two, Shape.rowMajor_val_one]
    show (j 0).val * 1 + 0 = (j 0).val
    omega
  · exact congrArg (wanted m c) (eq_ix1 j).symm

/-- The kernel's run over the extended reals: its result is the wanted one, and the argument is unchanged. -/
theorem run_value : θ_run defs (onTc (τ := τ) (main (F := Ideal))) ⟨m, fun _ => 0, ρ⟩ (fun r => ∀ c : Dev nD,
    r.2.mem ((c.tc : Thread nD τ).loc main_v1) = wanted m c
    ∧ r.2.mem ((c.tc : Thread nD τ).loc main_arg0) = m ((c.tc : Thread nD τ).loc main_arg0)) :=
  (θ_run defs _ _).mono (fun _ h c => ⟨((h.1 c).2 main_v1 (by decide)).trans (result_value m c),
      ((h.1 c).1 0).trans (((dats m 0 c).arrAt_in 0 rfl _).trans (V_main_arg0 m c))⟩)
    (run_main m ρ)

end Cert.KernelProof

namespace Cert.ValueProof

open Idealize.ShloMosaic Idealize.ShloMosaic.TcCoe Idealize.SL.Sem

/-- The kernel's result is the reference's. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelProof.wanted m c, Cert.KernelProof.run_value m g, ?_⟩
  refine θ_run_mono (Cert.RefProof.run m' g') fun r h c => ⟨(h c).1.trans ?_, (h c).2⟩
  exact congrArg (fun x => Cert.RefProof.result (F := Ideal) (Cert.RefProof.score Cert.RefProof.words x)) (hagree c)

end Cert.ValueProof

end

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.RefFrame
public import proofs.«01_k».proof.Proof.Value

public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelProof.quiescent_words, Cert.KernelProof.quiescent_reals, Cert.RefProof.quiescent, trivial, Cert.ValueProof.algebraic⟩

end Cert.Proof

end
